-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_v82) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x384x5120 : Shape := ⟨3, ![3, 384, 5120]⟩
abbrev S5120 : Shape := ⟨1, ![5120]⟩
abbrev S1152x5120 : Shape := ⟨2, ![1152, 5120]⟩
abbrev S1x5120 : Shape := ⟨2, ![1, 5120]⟩
abbrev S3x384 : Shape := ⟨2, ![3, 384]⟩
abbrev S1152x640 : Shape := ⟨2, ![1152, 640]⟩
abbrev S32x5120 : Shape := ⟨2, ![32, 5120]⟩
abbrev S32x640 : Shape := ⟨2, ![32, 640]⟩
abbrev S1024x128 : Shape := ⟨2, ![1024, 128]⟩
abbrev S3x9x128 : Shape := ⟨3, ![3, 9, 128]⟩
abbrev S32x128 : Shape := ⟨2, ![32, 128]⟩
abbrev S1x128 : Shape := ⟨2, ![1, 128]⟩
abbrev S32x1024 : Shape := ⟨2, ![32, 1024]⟩
abbrev S32 : Shape := ⟨1, ![32]⟩
abbrev S32x1 : Shape := ⟨2, ![32, 1]⟩
abbrev S128 : Shape := ⟨1, ![128]⟩
abbrev S1x1x128 : Shape := ⟨3, ![1, 1, 128]⟩

abbrev nBuf : Space → Nat
  | .hbm => 18
  | .vmem => 22
  | .smem => 0
  | _ => 0

abbrev bufTy : (tb : Table) → Fin (tcTables nBuf tb) → BufTy
  | .hbm, ⟨0, _⟩ => ⟨S3x384x5120, .bf16⟩
  | .hbm, ⟨1, _⟩ => ⟨S3x384x5120, .bf16⟩
  | .hbm, ⟨2, _⟩ => ⟨S5120, .f32⟩
  | .hbm, ⟨3, _⟩ => ⟨S3x384x5120, .i32⟩
  | .hbm, ⟨4, _⟩ => ⟨S5120, .f32⟩
  | .hbm, ⟨5, _⟩ => ⟨S5120, .f32⟩
  | .hbm, ⟨6, _⟩ => ⟨S1152x5120, .bf16⟩
  | .hbm, ⟨7, _⟩ => ⟨S1152x5120, .bf16⟩
  | .hbm, ⟨8, _⟩ => ⟨S1x5120, .f32⟩
  | .hbm, ⟨9, _⟩ => ⟨S1152x5120, .i32⟩
  | .hbm, ⟨10, _⟩ => ⟨S1x5120, .f32⟩
  | .hbm, ⟨11, _⟩ => ⟨S1x5120, .f32⟩
  | .hbm, ⟨12, _⟩ => ⟨S1152x5120, .fp8e4m3⟩
  | .hbm, ⟨13, _⟩ => ⟨S3x384, .f32⟩
  | .hbm, ⟨14, _⟩ => ⟨S1152x640, .i8⟩
  | .hbm, ⟨15, _⟩ => ⟨S3x384, .f32⟩
  | .hbm, ⟨16, _⟩ => ⟨S3x384, .f32⟩
  | .hbm, ⟨17, _⟩ => ⟨S1152x5120, .bf16⟩
  | .local _ .vmem, ⟨0, _⟩ => ⟨S32x5120, .bf16⟩
  | .local _ .vmem, ⟨1, _⟩ => ⟨S32x5120, .bf16⟩
  | .local _ .vmem, ⟨2, _⟩ => ⟨S32x5120, .bf16⟩
  | .local _ .vmem, ⟨3, _⟩ => ⟨S32x5120, .bf16⟩
  | .local _ .vmem, ⟨4, _⟩ => ⟨S1x5120, .f32⟩
  | .local _ .vmem, ⟨5, _⟩ => ⟨S32x5120, .i32⟩
  | .local _ .vmem, ⟨6, _⟩ => ⟨S32x5120, .i32⟩
  | .local _ .vmem, ⟨7, _⟩ => ⟨S1x5120, .f32⟩
  | .local _ .vmem, ⟨8, _⟩ => ⟨S1x5120, .f32⟩
  | .local _ .vmem, ⟨9, _⟩ => ⟨S32x5120, .fp8e4m3⟩
  | .local _ .vmem, ⟨10, _⟩ => ⟨S32x5120, .fp8e4m3⟩
  | .local _ .vmem, ⟨11, _⟩ => ⟨S3x384, .f32⟩
  | .local _ .vmem, ⟨12, _⟩ => ⟨S32x640, .i8⟩
  | .local _ .vmem, ⟨13, _⟩ => ⟨S32x640, .i8⟩
  | .local _ .vmem, ⟨14, _⟩ => ⟨S3x384, .f32⟩
  | .local _ .vmem, ⟨15, _⟩ => ⟨S3x384, .f32⟩
  | .local _ .vmem, ⟨16, _⟩ => ⟨S32x5120, .bf16⟩
  | .local _ .vmem, ⟨17, _⟩ => ⟨S32x5120, .bf16⟩
  | .local _ .vmem, ⟨18, _⟩ => ⟨S1024x128, .bf16⟩
  | .local _ .vmem, ⟨19, _⟩ => ⟨S32x5120, .f32⟩
  | .local _ .vmem, ⟨20, _⟩ => ⟨S32x5120, .f32⟩
  | .local _ .vmem, ⟨21, _⟩ => ⟨S3x9x128, .f32⟩
  | _, _ => ⟨S3x384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![36], ![false]⟩

def k0_off1 (i : grid0.Coords) : Fin 3 → Nat :=
  let c0_1433 : Index := 0#32
  let arg0 : BitVec 32 := BitVec.ofNat 32 (i 0).val
  let c0_i32_1416 : BitVec 32 := 0#32
  let v2592 : BitVec 1 := Scalar.cmpi .sgt arg0 c0_i32_1416
  let v2593 : BitVec 32 := Scalar.extui v2592
  let c0_i32_1417 : BitVec 32 := 0#32
  let v2594 : BitVec 1 := Scalar.cmpi .slt arg0 c0_i32_1417
  let v2595 : BitVec 32 := Scalar.extui v2594
  let v2596 : BitVec 32 := Scalar.subi v2593 v2595
  let c4_i32_1415 : BitVec 32 := 4#32
  let c0_i32_1418 : BitVec 32 := 0#32
  let v2597 : BitVec 1 := Scalar.cmpi .sgt c4_i32_1415 c0_i32_1418
  let v2598 : BitVec 32 := Scalar.extui v2597
  let c0_i32_1419 : BitVec 32 := 0#32
  let v2599 : BitVec 1 := Scalar.cmpi .slt c4_i32_1415 c0_i32_1419
  let v2600 : BitVec 32 := Scalar.extui v2599
  let v2601 : BitVec 32 := Scalar.subi v2598 v2600
  let v2602 : BitVec 1 := Scalar.cmpi .ne v2596 v2601
  let v2603 : BitVec 32 := Scalar.remsi arg0 c4_i32_1415
  let c0_i32_1420 : BitVec 32 := 0#32
  let v2604 : BitVec 1 := Scalar.cmpi .ne v2603 c0_i32_1420
  let v2605 : BitVec 1 := Scalar.andi v2602 v2604
  let v2591 : BitVec 32 := Scalar.divsi arg0 c4_i32_1415
  let c1_i32_1421 : BitVec 32 := 1#32
  let v2606 : BitVec 32 := Scalar.subi v2591 c1_i32_1421
  let v2607 : BitVec 32 := Scalar.select v2605 v2606 v2591
  let v2628 : Index := Scalar.indexCast v2607
  let c0_1434 : Index := 0#32
  ![0, v2628.toNat, 0]
def k0_off2 (i : grid0.Coords) : Fin 3 → Nat :=
  let c1 : Index := 1#32
  let arg0 : BitVec 32 := BitVec.ofNat 32 (i 0).val
  let c0_i32_1416 : BitVec 32 := 0#32
  let v2592 : BitVec 1 := Scalar.cmpi .sgt arg0 c0_i32_1416
  let v2593 : BitVec 32 := Scalar.extui v2592
  let c0_i32_1417 : BitVec 32 := 0#32
  let v2594 : BitVec 1 := Scalar.cmpi .slt arg0 c0_i32_1417
  let v2595 : BitVec 32 := Scalar.extui v2594
  let v2596 : BitVec 32 := Scalar.subi v2593 v2595
  let c4_i32_1415 : BitVec 32 := 4#32
  let c0_i32_1418 : BitVec 32 := 0#32
  let v2597 : BitVec 1 := Scalar.cmpi .sgt c4_i32_1415 c0_i32_1418
  let v2598 : BitVec 32 := Scalar.extui v2597
  let c0_i32_1419 : BitVec 32 := 0#32
  let v2599 : BitVec 1 := Scalar.cmpi .slt c4_i32_1415 c0_i32_1419
  let v2600 : BitVec 32 := Scalar.extui v2599
  let v2601 : BitVec 32 := Scalar.subi v2598 v2600
  let v2602 : BitVec 1 := Scalar.cmpi .ne v2596 v2601
  let v2603 : BitVec 32 := Scalar.remsi arg0 c4_i32_1415
  let c0_i32_1420 : BitVec 32 := 0#32
  let v2604 : BitVec 1 := Scalar.cmpi .ne v2603 c0_i32_1420
  let v2605 : BitVec 1 := Scalar.andi v2602 v2604
  let v2591 : BitVec 32 := Scalar.divsi arg0 c4_i32_1415
  let c1_i32_1421 : BitVec 32 := 1#32
  let v2606 : BitVec 32 := Scalar.subi v2591 c1_i32_1421
  let v2607 : BitVec 32 := Scalar.select v2605 v2606 v2591
  let v2643 : Index := Scalar.indexCast v2607
  let c0_1439 : Index := 0#32
  ![1, v2643.toNat, 0]
def k0_off3 (i : grid0.Coords) : Fin 3 → Nat :=
  let c2 : Index := 2#32
  let arg0 : BitVec 32 := BitVec.ofNat 32 (i 0).val
  let c0_i32_1416 : BitVec 32 := 0#32
  let v2592 : BitVec 1 := Scalar.cmpi .sgt arg0 c0_i32_1416
  let v2593 : BitVec 32 := Scalar.extui v2592
  let c0_i32_1417 : BitVec 32 := 0#32
  let v2594 : BitVec 1 := Scalar.cmpi .slt arg0 c0_i32_1417
  let v2595 : BitVec 32 := Scalar.extui v2594
  let v2596 : BitVec 32 := Scalar.subi v2593 v2595
  let c4_i32_1415 : BitVec 32 := 4#32
  let c0_i32_1418 : BitVec 32 := 0#32
  let v2597 : BitVec 1 := Scalar.cmpi .sgt c4_i32_1415 c0_i32_1418
  let v2598 : BitVec 32 := Scalar.extui v2597
  let c0_i32_1419 : BitVec 32 := 0#32
  let v2599 : BitVec 1 := Scalar.cmpi .slt c4_i32_1415 c0_i32_1419
  let v2600 : BitVec 32 := Scalar.extui v2599
  let v2601 : BitVec 32 := Scalar.subi v2598 v2600
  let v2602 : BitVec 1 := Scalar.cmpi .ne v2596 v2601
  let v2603 : BitVec 32 := Scalar.remsi arg0 c4_i32_1415
  let c0_i32_1420 : BitVec 32 := 0#32
  let v2604 : BitVec 1 := Scalar.cmpi .ne v2603 c0_i32_1420
  let v2605 : BitVec 1 := Scalar.andi v2602 v2604
  let v2591 : BitVec 32 := Scalar.divsi arg0 c4_i32_1415
  let c1_i32_1421 : BitVec 32 := 1#32
  let v2606 : BitVec 32 := Scalar.subi v2591 c1_i32_1421
  let v2607 : BitVec 32 := Scalar.select v2605 v2606 v2591
  let v2658 : Index := Scalar.indexCast v2607
  let c0_1444 : Index := 0#32
  ![2, v2658.toNat, 0]
def k0_cond2 (i : grid0.Coords) : BitVec 1 :=
  let arg0 : BitVec 32 := BitVec.ofNat 32 (i 0).val
  let c35_i32 : BitVec 32 := 35#32
  let v2667 : BitVec 1 := Scalar.cmpi .eq arg0 c35_i32
  let v2668 : BitVec 32 := Scalar.extui v2667
  let c0_i32_1447 : BitVec 32 := 0#32
  let v2669 : BitVec 1 := Scalar.cmpi .ne v2668 c0_i32_1447
  v2669

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x5120 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x640 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x5120 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_d" => some ((1 / 5120 : ℝ) : EReal)
  | _ => none
-- ==== ReferenceIdeal.lean ====
abbrev S3x384x5120 : Shape := ⟨3, ![3, 384, 5120]⟩
abbrev S5120 : Shape := ⟨1, ![5120]⟩
abbrev S_ : Shape := ⟨0, ![]⟩
abbrev S1x1x5120 : Shape := ⟨3, ![1, 1, 5120]⟩
abbrev S3x384 : Shape := ⟨2, ![3, 384]⟩
abbrev S3x384x1 : Shape := ⟨3, ![3, 384, 1]⟩
abbrev S247 : Shape := ⟨1, ![247]⟩
abbrev S1x1x247 : Shape := ⟨3, ![1, 1, 247]⟩
abbrev S3x384x247 : Shape := ⟨3, ![3, 384, 247]⟩
abbrev S3x384x640x8 : Shape := ⟨4, ![3, 384, 640, 8]⟩
abbrev S8 : Shape := ⟨1, ![8]⟩
abbrev S1x1x1x8 : Shape := ⟨4, ![1, 1, 1, 8]⟩
abbrev S3x384x640 : Shape := ⟨3, ![3, 384, 640]⟩
abbrev S1152x5120 : Shape := ⟨2, ![1152, 5120]⟩
abbrev S1152x640 : Shape := ⟨2, ![1152, 640]⟩

abbrev nBuf : Space → Nat
  | .hbm => 120
  | .vmem => 0
  | .smem => 0
  | _ => 0

abbrev bufTy : (tb : Table) → Fin (tcTables nBuf tb) → BufTy
  | .hbm, ⟨0, _⟩ => ⟨S3x384x5120, .bf16⟩
  | .hbm, ⟨1, _⟩ => ⟨S3x384x5120, .bf16⟩
  | .hbm, ⟨2, _⟩ => ⟨S5120, .f32⟩
  | .hbm, ⟨3, _⟩ => ⟨S3x384x5120, .i32⟩
  | .hbm, ⟨4, _⟩ => ⟨S5120, .f32⟩
  | .hbm, ⟨5, _⟩ => ⟨S5120, .f32⟩
  | .hbm, ⟨6, _⟩ => ⟨S_, .i32⟩
  | .hbm, ⟨7, _⟩ => ⟨S3x384x5120, .i32⟩
  | .hbm, ⟨8, _⟩ => ⟨S3x384x5120, .i1⟩
  | .hbm, ⟨9, _⟩ => ⟨S3x384x5120, .f32⟩
  | .hbm, ⟨10, _⟩ => ⟨S1x1x5120, .f32⟩
  | .hbm, ⟨11, _⟩ => ⟨S3x384x5120, .f32⟩
  | .hbm, ⟨12, _⟩ => ⟨S3x384x5120, .f32⟩
  | .hbm, ⟨13, _⟩ => ⟨S_, .f32⟩
  | .hbm, ⟨14, _⟩ => ⟨S3x384x5120, .f32⟩
  | .hbm, ⟨15, _⟩ => ⟨S3x384x5120, .f32⟩
  | .hbm, ⟨16, _⟩ => ⟨S_, .f32⟩
  | .hbm, ⟨17, _⟩ => ⟨S_, .f32⟩
  | .hbm, ⟨18, _⟩ => ⟨S3x384x5120, .f32⟩
  | .hbm, ⟨19, _⟩ => ⟨S3x384x5120, .f32⟩
  | .hbm, ⟨20, _⟩ => ⟨S3x384x5120, .f32⟩
  | .hbm, ⟨21, _⟩ => ⟨S3x384x5120, .f32⟩
  | .hbm, ⟨22, _⟩ => ⟨S3x384x5120, .bf16⟩
  | .hbm, ⟨23, _⟩ => ⟨S3x384x5120, .f32⟩
  | .hbm, ⟨24, _⟩ => ⟨S_, .f32⟩
  | .hbm, ⟨25, _⟩ => ⟨S3x384, .f32⟩
  | .hbm, ⟨26, _⟩ => ⟨S_, .f32⟩
  | .hbm, ⟨27, _⟩ => ⟨S3x384, .f32⟩
  | .hbm, ⟨28, _⟩ => ⟨S3x384, .f32⟩
  | .hbm, ⟨29, _⟩ => ⟨S3x384x1, .f32⟩
  | .hbm, ⟨30, _⟩ => ⟨S3x384x5120, .f32⟩
  | .hbm, ⟨31, _⟩ => ⟨S3x384x5120, .f32⟩
  | .hbm, ⟨32, _⟩ => ⟨S3x384x5120, .f32⟩
  | .hbm, ⟨33, _⟩ => ⟨S_, .f32⟩
  | .hbm, ⟨34, _⟩ => ⟨S3x384, .f32⟩
  | .hbm, ⟨35, _⟩ => ⟨S_, .f32⟩
  | .hbm, ⟨36, _⟩ => ⟨S3x384, .f32⟩
  | .hbm, ⟨37, _⟩ => ⟨S3x384, .f32⟩
  | .hbm, ⟨38, _⟩ => ⟨S_, .f32⟩
  | .hbm, ⟨39, _⟩ => ⟨S3x384, .f32⟩
  | .hbm, ⟨40, _⟩ => ⟨S3x384, .f32⟩
  | .hbm, ⟨41, _⟩ => ⟨S3x384, .f32⟩
  | .hbm, ⟨42, _⟩ => ⟨S3x384x1, .f32⟩
  | .hbm, ⟨43, _⟩ => ⟨S3x384x5120, .f32⟩
  | .hbm, ⟨44, _⟩ => ⟨S3x384x5120, .f32⟩
  | .hbm, ⟨45, _⟩ => ⟨S1x1x5120, .f32⟩
  | .hbm, ⟨46, _⟩ => ⟨S3x384x5120, .f32⟩
  | .hbm, ⟨47, _⟩ => ⟨S3x384x5120, .f32⟩
  | .hbm, ⟨48, _⟩ => ⟨S1x1x5120, .f32⟩
  | .hbm, ⟨49, _⟩ => ⟨S3x384x5120, .f32⟩
  | .hbm, ⟨50, _⟩ => ⟨S3x384x5120, .f32⟩
  | .hbm, ⟨51, _⟩ => ⟨S3x384x5120, .f32⟩
  | .hbm, ⟨52, _⟩ => ⟨S_, .f32⟩
  | .hbm, ⟨53, _⟩ => ⟨S3x384, .f32⟩
  | .hbm, ⟨54, _⟩ => ⟨S_, .f32⟩
  | .hbm, ⟨55, _⟩ => ⟨S3x384, .f32⟩
  | .hbm, ⟨56, _⟩ => ⟨S3x384, .f32⟩
  | .hbm, ⟨57, _⟩ => ⟨S247, .i32⟩
  | .hbm, ⟨58, _⟩ => ⟨S_, .i32⟩
  | .hbm, ⟨59, _⟩ => ⟨S247, .i32⟩
  | .hbm, ⟨60, _⟩ => ⟨S247, .i32⟩
  | .hbm, ⟨61, _⟩ => ⟨S3x384x1, .f32⟩
  | .hbm, ⟨62, _⟩ => ⟨S247, .f32⟩
  | .hbm, ⟨63, _⟩ => ⟨S_, .f32⟩
  | .hbm, ⟨64, _⟩ => ⟨S247, .f32⟩
  | .hbm, ⟨65, _⟩ => ⟨S247, .f32⟩
  | .hbm, ⟨66, _⟩ => ⟨S1x1x247, .f32⟩
  | .hbm, ⟨67, _⟩ => ⟨S3x384x247, .f32⟩
  | .hbm, ⟨68, _⟩ => ⟨S3x384x247, .f32⟩
  | .hbm, ⟨69, _⟩ => ⟨S3x384x247, .i1⟩
  | .hbm, ⟨70, _⟩ => ⟨S3x384x247, .i32⟩
  | .hbm, ⟨71, _⟩ => ⟨S_, .i32⟩
  | .hbm, ⟨72, _⟩ => ⟨S3x384, .i32⟩
  | .hbm, ⟨73, _⟩ => ⟨S_, .i32⟩
  | .hbm, ⟨74, _⟩ => ⟨S3x384, .i32⟩
  | .hbm, ⟨75, _⟩ => ⟨S3x384, .i32⟩
  | .hbm, ⟨76, _⟩ => ⟨S_, .f32⟩
  | .hbm, ⟨77, _⟩ => ⟨S3x384, .f32⟩
  | .hbm, ⟨78, _⟩ => ⟨S3x384, .i1⟩
  | .hbm, ⟨79, _⟩ => ⟨S_, .f32⟩
  | .hbm, ⟨80, _⟩ => ⟨S3x384, .f32⟩
  | .hbm, ⟨81, _⟩ => ⟨S3x384, .i1⟩
  | .hbm, ⟨82, _⟩ => ⟨S3x384, .i1⟩
  | .hbm, ⟨83, _⟩ => ⟨S_, .i32⟩
  | .hbm, ⟨84, _⟩ => ⟨S_, .i32⟩
  | .hbm, ⟨85, _⟩ => ⟨S3x384, .i32⟩
  | .hbm, ⟨86, _⟩ => ⟨S3x384, .i32⟩
  | .hbm, ⟨87, _⟩ => ⟨S3x384, .f32⟩
  | .hbm, ⟨88, _⟩ => ⟨S_, .f32⟩
  | .hbm, ⟨89, _⟩ => ⟨S3x384, .f32⟩
  | .hbm, ⟨90, _⟩ => ⟨S3x384, .f32⟩
  | .hbm, ⟨91, _⟩ => ⟨S3x384, .i32⟩
  | .hbm, ⟨92, _⟩ => ⟨S3x384, .f32⟩
  | .hbm, ⟨93, _⟩ => ⟨S_, .f32⟩
  | .hbm, ⟨94, _⟩ => ⟨S3x384, .f32⟩
  | .hbm, ⟨95, _⟩ => ⟨S3x384, .f32⟩
  | .hbm, ⟨96, _⟩ => ⟨S3x384x1, .f32⟩
  | .hbm, ⟨97, _⟩ => ⟨S3x384x5120, .f32⟩
  | .hbm, ⟨98, _⟩ => ⟨S3x384x5120, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S3x384x5120, .f32⟩
  | .hbm, ⟨103, _⟩ => ⟨S3x384x5120, .f32⟩
  | .hbm, ⟨104, _⟩ => ⟨S_, .f32⟩
  | .hbm, ⟨105, _⟩ => ⟨S3x384x5120, .f32⟩
  | .hbm, ⟨106, _⟩ => ⟨S3x384x5120, .f32⟩
  | .hbm, ⟨107, _⟩ => ⟨S3x384x5120, .fp8e4m3⟩
  | .hbm, ⟨108, _⟩ => ⟨S3x384x640x8, .i1⟩
  | .hbm, ⟨109, _⟩ => ⟨S3x384x640x8, .i32⟩
  | .hbm, ⟨110, _⟩ => ⟨S8, .i32⟩
  | .hbm, ⟨111, _⟩ => ⟨S1x1x1x8, .i32⟩
  | .hbm, ⟨112, _⟩ => ⟨S3x384x640x8, .i32⟩
  | .hbm, ⟨113, _⟩ => ⟨S3x384x640x8, .i32⟩
  | .hbm, ⟨114, _⟩ => ⟨S_, .i32⟩
  | .hbm, ⟨115, _⟩ => ⟨S3x384x640, .i32⟩
  | .hbm, ⟨116, _⟩ => ⟨S1152x5120, .fp8e4m3⟩
  | .hbm, ⟨117, _⟩ => ⟨S3x384x640, .i8⟩
  | .hbm, ⟨118, _⟩ => ⟨S1152x640, .i8⟩
  | .hbm, ⟨119, _⟩ => ⟨S1152x5120, .bf16⟩
  | _, _ => ⟨S3x384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_call1_v0 : Ref sig .tc := ⟨.hbm, 84, rfl⟩
abbrev main_call1_v1 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_17 : Ref sig .tc := ⟨.hbm, 99, rfl⟩
abbrev main_cst_18 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_19 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩

abbrev nD : Nat := 1
abbrev τ : Topo := Topo.v7x

variable {F : FTy → Type} [FloatOps F]
-- ==== Proof.KernelBody.lean ====
/-
  What the frame of the kernel needs of its body at one grid point: it runs from any contents of its buffers, leaves the
  six input blocks as they were, and hands every buffer back.
-/
module

public import proofs.«01_k».proof.Proof.Gen.Kernel.Skeleton
public import proofs.«01_k».proof.Proof.Gen.Kernel.Frame

@[expose] public section

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The grid's point number `n`. -/
def coords (n : Fin 36) : grid0.Coords := fun a => ⟨n.val, by have := n.isLt; fin_cases a; exact this⟩

theorem coords_zero (i : grid0.Coords) : coords (i 0) = i := by
  funext a; fin_cases a; rfl

/-- The branch that fills the bit-weight matrix is taken. -/
abbrev isFirst (i : grid0.Coords) : Prop :=
  Scalar.cmpi .ne (Scalar.extui (Scalar.cmpi .eq (BitVec.ofNat 32 (i 0).val) 0#32)) 0#32 = 1#1

/-- The branch that copies the statistics out is taken. -/
abbrev isLast (i : grid0.Coords) : Prop := k0_cond2 i = 1#1

/-- Where the body stores its line of statistics: row `i / 4` of plane 0 (the scales), -/
theorem off1_eq (i : grid0.Coords) : k0_off1 i = ![0, (i 0).val / 4, 0] := by
  have h : ∀ n : Fin 36, k0_off1 (coords n) = ![0, n.val / 4, 0] := by decide +kernel
  rw [← coords_zero i]; exact h (i 0)
/-- of plane 1 (the means), -/
theorem off2_eq (i : grid0.Coords) : k0_off2 i = ![1, (i 0).val / 4, 0] := by
  have h : ∀ n : Fin 36, k0_off2 (coords n) = ![1, n.val / 4, 0] := by decide +kernel
  rw [← coords_zero i]; exact h (i 0)
/-- and of plane 2 (the reciprocal deviations). -/
theorem off3_eq (i : grid0.Coords) : k0_off3 i = ![2, (i 0).val / 4, 0] := by
  have h : ∀ n : Fin 36, k0_off3 (coords n) = ![2, n.val / 4, 0] := by decide +kernel
  rw [← coords_zero i]; exact h (i 0)

instance closedOff1 (i : grid0.Coords) : ClosedOff (k0_off1 i) := ⟨![0, (i 0).val / 4, 0], off1_eq i⟩
instance closedOff2 (i : grid0.Coords) : ClosedOff (k0_off2 i) := ⟨![1, (i 0).val / 4, 0], off2_eq i⟩
instance closedOff3 (i : grid0.Coords) : ClosedOff (k0_off3 i) := ⟨![2, (i 0).val / 4, 0], off3_eq i⟩

/-- The last point is number 35. -/
theorem isLast_eq (i : grid0.Coords) (h : isLast i) : i = coords 35 := by
  have h' : ∀ n : Fin 36, isLast (coords n) → n = 35 := by decide +kernel
  rw [← coords_zero i] at h ⊢; rw [h' _ h]

/-- The body at grid point `i` runs on any whole buffers: the six inputs hold `x0` … `x5` before and after, each output
    and scratch buffer holds something before and something after. -/
def BodyRuns (c : Dev nD) (i : grid0.Coords) : Prop :=
  ∀ (arg1 : Memref sig .tc .vmem S32x5120 .bf16) (harg1 : arg1.IsWhole)
    (arg2 : Memref sig .tc .vmem S32x5120 .bf16) (harg2 : arg2.IsWhole)
    (arg3 : Memref sig .tc .vmem S1x5120 .f32) (harg3 : arg3.IsWhole)
    (arg4 : Memref sig .tc .vmem S32x5120 .i32) (harg4 : arg4.IsWhole)
    (arg5 : Memref sig .tc .vmem S1x5120 .f32) (harg5 : arg5.IsWhole)
    (arg6 : Memref sig .tc .vmem S1x5120 .f32) (harg6 : arg6.IsWhole)
    (arg7 : Memref sig .tc .vmem S32x5120 .fp8e4m3) (harg7 : arg7.IsWhole)
    (arg8 : Memref sig .tc .vmem S3x384 .f32) (harg8 : arg8.IsWhole)
    (arg9 : Memref sig .tc .vmem S32x640 .i8) (harg9 : arg9.IsWhole)
    (arg10 : Memref sig .tc .vmem S3x384 .f32) (harg10 : arg10.IsWhole)
    (arg11 : Memref sig .tc .vmem S3x384 .f32) (harg11 : arg11.IsWhole)
    (arg12 : Memref sig .tc .vmem S32x5120 .bf16) (harg12 : arg12.IsWhole)
    (arg13 : Memref sig .tc .vmem S1024x128 .bf16) (harg13 : arg13.IsWhole)
    (arg14 : Memref sig .tc .vmem S32x5120 .f32) (harg14 : arg14.IsWhole)
    (arg15 : Memref sig .tc .vmem S32x5120 .f32) (harg15 : arg15.IsWhole)
    (arg16 : Memref sig .tc .vmem S3x9x128 .f32) (harg16 : arg16.IsWhole)
    (x0 : Vec F S32x5120 .bf16) (x1 : Vec F S32x5120 .bf16) (x2 : Vec F S1x5120 .f32) (x3 : Vec F S32x5120 .i32)
    (x4 : Vec F S1x5120 .f32) (x5 : Vec F S1x5120 .f32) (E : Set ℕ) (K : PUnit.{1} → sProp 𝕄),
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E
          (cc0_dropout_add_ln_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K

end Cert.Kernel.Frame

end
-- ==== Proof.KernelFirst.lean ====
/- The first point: the bit-weight matrix is filled, nothing is copied out. The body runs there. -/
module

public import proofs.«01_k».proof.Proof.KernelBody

@[expose] public section

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4400000 in
/-- The first point: the bit-weight matrix is filled, nothing is copied out. -/
theorem bodyRuns_first (c : Dev nD) (i : grid0.Coords) (h0 : isFirst i) (h2 : ¬ isLast i) :
    BodyRuns (F := F) c i := by

  intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    x0 x1 x2 x3 x4 x5 E K
  simp only [cc0_dropout_add_ln_fp8_eq_skeleton]; unfold cc0_dropout_add_ln_fp8_skel
  simp only [k0_part78_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, ⟨%d10, %f10, -, H10⟩,
    ⟨%d11, %f11, -, H11⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact h0 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Kernel.Frame

end
-- ==== Proof.KernelMiddle.lean ====
/- A point neither first nor last. The body runs there. -/
module

public import proofs.«01_k».proof.Proof.KernelBody

@[expose] public section

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4400000 in
/-- A point neither first nor last. -/
theorem bodyRuns_middle (c : Dev nD) (i : grid0.Coords) (h0 : ¬ isFirst i) (h2 : ¬ isLast i) :
    BodyRuns (F := F) c i := by

  intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    x0 x1 x2 x3 x4 x5 E K
  simp only [cc0_dropout_add_ln_fp8_eq_skeleton]; unfold cc0_dropout_add_ln_fp8_skel
  simp only [k0_part78_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, ⟨%d10, %f10, -, H10⟩,
    ⟨%d11, %f11, -, H11⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact h0 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Kernel.Frame

end
-- ==== Proof.KernelLast.lean ====
/- The last point: the statistics are copied out. The body runs there. -/
module

public import proofs.«01_k».proof.Proof.KernelBody

@[expose] public section

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

instance closedOff1_last : ClosedOff (k0_off1 (coords 35)) := ⟨![0, 8, 0], off1_eq (coords 35)⟩
instance closedOff2_last : ClosedOff (k0_off2 (coords 35)) := ⟨![1, 8, 0], off2_eq (coords 35)⟩
instance closedOff3_last : ClosedOff (k0_off3 (coords 35)) := ⟨![2, 8, 0], off3_eq (coords 35)⟩

set_option maxHeartbeats 4400000 in
/-- The last point: the statistics are copied out. -/
theorem bodyRuns_last (c : Dev nD) (i : grid0.Coords) (h0 : ¬ isFirst i) (h2 : isLast i) :
    BodyRuns (F := F) c i := by
  obtain rfl := isLast_eq i h2
  intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    x0 x1 x2 x3 x4 x5 E K
  simp only [cc0_dropout_add_ln_fp8_eq_skeleton]; unfold cc0_dropout_add_ln_fp8_skel
  simp only [k0_part78_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, ⟨%d10, %f10, -, H10⟩,
    ⟨%d11, %f11, -, H11⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact h0 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Kernel.Frame

end
-- ==== Proof.KernelFrame.lean ====
/-
  The frame of the kernel: it runs to its end and leaves its six arguments as they were. The contents of the results are
  not named here.
-/
module

public import proofs.«01_k».proof.Proof.KernelFirst
public import proofs.«01_k».proof.Proof.KernelMiddle
public import proofs.«01_k».proof.Proof.KernelLast
public import Idealize.ShloMosaic.Lib.Tactic

@[expose] public section

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The body runs at every grid point. -/
theorem bodyRuns (c : Dev nD) (i : grid0.Coords) : BodyRuns (F := F) c i := by
  by_cases h0 : isFirst i
  · by_cases h2 : isLast i
    · obtain rfl := isLast_eq i h2
      exact absurd h0 (by decide +kernel)
    · exact bodyRuns_first c i h0 h2
  · by_cases h2 : isLast i
    · exact bodyRuns_last c i h0 h2
    · exact bodyRuns_middle c i h0 h2

/-- Window 0's staging buffer at point `t`, and that it is whole. -/
abbrev ms0 (t : Fin cfg0.N) : Memref sig .tc .vmem S32x5120 .bf16 := win0_0.stage (cfg0.slots t 0)
abbrev hs0 (t : Fin cfg0.N) : (ms0 t).IsWhole := hstage0_0 ((cfg0.slots t 0).cast nbuf0_0)
/-- Window 1's staging buffer at point `t`, and that it is whole. -/
abbrev ms1 (t : Fin cfg0.N) : Memref sig .tc .vmem S32x5120 .bf16 := win0_1.stage (cfg0.slots t 1)
abbrev hs1 (t : Fin cfg0.N) : (ms1 t).IsWhole := hstage0_1 ((cfg0.slots t 1).cast nbuf0_1)
/-- Window 2's staging buffer at point `t`, and that it is whole. -/
abbrev ms2 (t : Fin cfg0.N) : Memref sig .tc .vmem S1x5120 .f32 := win0_2.stage (cfg0.slots t 2)
abbrev hs2 (t : Fin cfg0.N) : (ms2 t).IsWhole := hstage0_2 ((cfg0.slots t 2).cast nbuf0_2)
/-- Window 3's staging buffer at point `t`, and that it is whole. -/
abbrev ms3 (t : Fin cfg0.N) : Memref sig .tc .vmem S32x5120 .i32 := win0_3.stage (cfg0.slots t 3)
abbrev hs3 (t : Fin cfg0.N) : (ms3 t).IsWhole := hstage0_3 ((cfg0.slots t 3).cast nbuf0_3)
/-- Window 4's staging buffer at point `t`, and that it is whole. -/
abbrev ms4 (t : Fin cfg0.N) : Memref sig .tc .vmem S1x5120 .f32 := win0_4.stage (cfg0.slots t 4)
abbrev hs4 (t : Fin cfg0.N) : (ms4 t).IsWhole := hstage0_4 ((cfg0.slots t 4).cast nbuf0_4)
/-- Window 5's staging buffer at point `t`, and that it is whole. -/
abbrev ms5 (t : Fin cfg0.N) : Memref sig .tc .vmem S1x5120 .f32 := win0_5.stage (cfg0.slots t 5)
abbrev hs5 (t : Fin cfg0.N) : (ms5 t).IsWhole := hstage0_5 ((cfg0.slots t 5).cast nbuf0_5)
/-- Window 6's staging buffer at point `t`, and that it is whole. -/
abbrev ms6 (t : Fin cfg0.N) : Memref sig .tc .vmem S32x5120 .fp8e4m3 := win0_6.stage (cfg0.slots t 6)
abbrev hs6 (t : Fin cfg0.N) : (ms6 t).IsWhole := hstage0_6 ((cfg0.slots t 6).cast nbuf0_6)
/-- Window 7's staging buffer at point `t`, and that it is whole. -/
abbrev ms7 (t : Fin cfg0.N) : Memref sig .tc .vmem S3x384 .f32 := win0_7.stage (cfg0.slots t 7)
abbrev hs7 (t : Fin cfg0.N) : (ms7 t).IsWhole := hstage0_7 ((cfg0.slots t 7).cast nbuf0_7)
/-- Window 8's staging buffer at point `t`, and that it is whole. -/
abbrev ms8 (t : Fin cfg0.N) : Memref sig .tc .vmem S32x640 .i8 := win0_8.stage (cfg0.slots t 8)
abbrev hs8 (t : Fin cfg0.N) : (ms8 t).IsWhole := hstage0_8 ((cfg0.slots t 8).cast nbuf0_8)
/-- Window 9's staging buffer at point `t`, and that it is whole. -/
abbrev ms9 (t : Fin cfg0.N) : Memref sig .tc .vmem S3x384 .f32 := win0_9.stage (cfg0.slots t 9)
abbrev hs9 (t : Fin cfg0.N) : (ms9 t).IsWhole := hstage0_9 ((cfg0.slots t 9).cast nbuf0_9)
/-- Window 10's staging buffer at point `t`, and that it is whole. -/
abbrev ms10 (t : Fin cfg0.N) : Memref sig .tc .vmem S3x384 .f32 := win0_10.stage (cfg0.slots t 10)
abbrev hs10 (t : Fin cfg0.N) : (ms10 t).IsWhole := hstage0_10 ((cfg0.slots t 10).cast nbuf0_10)
/-- Window 11's staging buffer at point `t`, and that it is whole. -/
abbrev ms11 (t : Fin cfg0.N) : Memref sig .tc .vmem S32x5120 .bf16 := win0_11.stage (cfg0.slots t 11)
abbrev hs11 (t : Fin cfg0.N) : (ms11 t).IsWhole := hstage0_11 ((cfg0.slots t 11).cast nbuf0_11)
/-- Scratch buffer 0. -/
abbrev sc0 : Memref sig .tc .vmem S1024x128 .bf16 := Memref.whole cc0_scratch0
/-- Scratch buffer 1. -/
abbrev sc1 : Memref sig .tc .vmem S32x5120 .f32 := Memref.whole cc0_scratch1
/-- Scratch buffer 2. -/
abbrev sc2 : Memref sig .tc .vmem S32x5120 .f32 := Memref.whole cc0_scratch2
/-- Scratch buffer 3. -/
abbrev sc3 : Memref sig .tc .vmem S3x9x128 .f32 := Memref.whole cc0_scratch3

/-- The pipeline's invariant: every scratch buffer holds something. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ ∃ r, prngReg c r) := by
  unfold Pipeline.ΦA; rw [scopedRest0_eq]; simp only [sc0, sc1, sc2, sc3, owns_whole]; try rfl

variable (m : (ℓ : Loc nD τ sig) → Buf (Elt F) ℓ) (ρ : Dev nD → PrngReg)

/-- The output windows, whose contents are not named. -/
def forgets : Fin 12 → Bool := fun w => 6 ≤ w.val

/-- The pipeline's proof data: the inputs at their blocks, the outputs and the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d)
    ∗ (∃ d, owns (c : Thread nD τ) (ms11 t) fullShare d))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d)
    ∗ (∃ d, owns (c : Thread nD τ) (ms11 t) fullShare d))

/-- An input's buffer is left at its block. -/
theorem leaves_in (c : Dev nD) (t : Fin cfg0.N) (w : Fin cfg0.W) (hi : cfg0.idle w (grid0.coords t) = false) :
    (dats m 0 c).leavesExact w t
      = owns (c : Thread nD τ) ((cfg0.win w).stage (cfg0.slots t w)) fullShare ((dats m 0 c).after w t) := by
  unfold Dat.leavesExact; rw [hi]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    PhiA_eq]
  rw [leaves_in m c t 0 rfl, after0]
  rw [leaves_in m c t 1 rfl, after1]
  rw [leaves_in m c t 2 rfl, after2]
  rw [leaves_in m c t 3 rfl, after3]
  rw [leaves_in m c t 4 rfl, after4]
  rw [leaves_in m c t 5 rfl, after5]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, H6, H7, H8, H9, H10, H11⟩
  iapply (bodyRuns c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- The pipeline's obligation for the body. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every argument ends as it began and every semaphore counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The kernel runs to its end from any memory with every counter at zero; its arguments end unchanged and every counter
    at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩, h.2⟩)
    (run_main m ρ)

end Cert.Kernel.Frame

end
-- ==== Proof.IdealBody.lean ====
/-
  What the frame of the kernel needs of its body at one grid point: it runs from any contents of its buffers, leaves the
  six input blocks as they were, and hands every buffer back.
-/
module

public import proofs.«01_k».proof.Proof.Gen.KernelIdeal.Skeleton
public import proofs.«01_k».proof.Proof.Gen.KernelIdeal.Frame

@[expose] public section

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The grid's point number `n`. -/
def coords (n : Fin 36) : grid0.Coords := fun a => ⟨n.val, by have := n.isLt; fin_cases a; exact this⟩

theorem coords_zero (i : grid0.Coords) : coords (i 0) = i := by
  funext a; fin_cases a; rfl

/-- The branch that fills the bit-weight matrix is taken. -/
abbrev isFirst (i : grid0.Coords) : Prop :=
  Scalar.cmpi .ne (Scalar.extui (Scalar.cmpi .eq (BitVec.ofNat 32 (i 0).val) 0#32)) 0#32 = 1#1

/-- The branch that copies the statistics out is taken. -/
abbrev isLast (i : grid0.Coords) : Prop := k0_cond2 i = 1#1

/-- Where the body stores its line of statistics: row `i / 4` of plane 0 (the scales), -/
theorem off1_eq (i : grid0.Coords) : k0_off1 i = ![0, (i 0).val / 4, 0] := by
  have h : ∀ n : Fin 36, k0_off1 (coords n) = ![0, n.val / 4, 0] := by decide +kernel
  rw [← coords_zero i]; exact h (i 0)
/-- of plane 1 (the means), -/
theorem off2_eq (i : grid0.Coords) : k0_off2 i = ![1, (i 0).val / 4, 0] := by
  have h : ∀ n : Fin 36, k0_off2 (coords n) = ![1, n.val / 4, 0] := by decide +kernel
  rw [← coords_zero i]; exact h (i 0)
/-- and of plane 2 (the reciprocal deviations). -/
theorem off3_eq (i : grid0.Coords) : k0_off3 i = ![2, (i 0).val / 4, 0] := by
  have h : ∀ n : Fin 36, k0_off3 (coords n) = ![2, n.val / 4, 0] := by decide +kernel
  rw [← coords_zero i]; exact h (i 0)

instance closedOff1 (i : grid0.Coords) : ClosedOff (k0_off1 i) := ⟨![0, (i 0).val / 4, 0], off1_eq i⟩
instance closedOff2 (i : grid0.Coords) : ClosedOff (k0_off2 i) := ⟨![1, (i 0).val / 4, 0], off2_eq i⟩
instance closedOff3 (i : grid0.Coords) : ClosedOff (k0_off3 i) := ⟨![2, (i 0).val / 4, 0], off3_eq i⟩

/-- The last point is number 35. -/
theorem isLast_eq (i : grid0.Coords) (h : isLast i) : i = coords 35 := by
  have h' : ∀ n : Fin 36, isLast (coords n) → n = 35 := by decide +kernel
  rw [← coords_zero i] at h ⊢; rw [h' _ h]

/-- The body at grid point `i` runs on any whole buffers: the six inputs hold `x0` … `x5` before and after, each output
    and scratch buffer holds something before and something after. -/
def BodyRuns (c : Dev nD) (i : grid0.Coords) : Prop :=
  ∀ (arg1 : Memref sig .tc .vmem S32x5120 .bf16) (harg1 : arg1.IsWhole)
    (arg2 : Memref sig .tc .vmem S32x5120 .bf16) (harg2 : arg2.IsWhole)
    (arg3 : Memref sig .tc .vmem S1x5120 .f32) (harg3 : arg3.IsWhole)
    (arg4 : Memref sig .tc .vmem S32x5120 .i32) (harg4 : arg4.IsWhole)
    (arg5 : Memref sig .tc .vmem S1x5120 .f32) (harg5 : arg5.IsWhole)
    (arg6 : Memref sig .tc .vmem S1x5120 .f32) (harg6 : arg6.IsWhole)
    (arg7 : Memref sig .tc .vmem S32x5120 .fp8e4m3) (harg7 : arg7.IsWhole)
    (arg8 : Memref sig .tc .vmem S3x384 .f32) (harg8 : arg8.IsWhole)
    (arg9 : Memref sig .tc .vmem S32x640 .i8) (harg9 : arg9.IsWhole)
    (arg10 : Memref sig .tc .vmem S3x384 .f32) (harg10 : arg10.IsWhole)
    (arg11 : Memref sig .tc .vmem S3x384 .f32) (harg11 : arg11.IsWhole)
    (arg12 : Memref sig .tc .vmem S32x5120 .bf16) (harg12 : arg12.IsWhole)
    (arg13 : Memref sig .tc .vmem S1024x128 .bf16) (harg13 : arg13.IsWhole)
    (arg14 : Memref sig .tc .vmem S32x5120 .f32) (harg14 : arg14.IsWhole)
    (arg15 : Memref sig .tc .vmem S32x5120 .f32) (harg15 : arg15.IsWhole)
    (arg16 : Memref sig .tc .vmem S3x9x128 .f32) (harg16 : arg16.IsWhole)
    (x0 : Vec F S32x5120 .bf16) (x1 : Vec F S32x5120 .bf16) (x2 : Vec F S1x5120 .f32) (x3 : Vec F S32x5120 .i32)
    (x4 : Vec F S1x5120 .f32) (x5 : Vec F S1x5120 .f32) (E : Set ℕ) (K : PUnit.{1} → sProp 𝕄),
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E
          (cc0_dropout_add_ln_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K

end Cert.KernelIdeal.Frame

end
-- ==== Proof.IdealFirst.lean ====
/- The first point: the bit-weight matrix is filled, nothing is copied out. The body runs there. -/
module

public import proofs.«01_k».proof.Proof.IdealBody

@[expose] public section

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4400000 in
/-- The first point: the bit-weight matrix is filled, nothing is copied out. -/
theorem bodyRuns_first (c : Dev nD) (i : grid0.Coords) (h0 : isFirst i) (h2 : ¬ isLast i) :
    BodyRuns (F := F) c i := by

  intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    x0 x1 x2 x3 x4 x5 E K
  simp only [cc0_dropout_add_ln_fp8_eq_skeleton]; unfold cc0_dropout_add_ln_fp8_skel
  simp only [k0_part78_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, ⟨%d10, %f10, -, H10⟩,
    ⟨%d11, %f11, -, H11⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact h0 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Frame

end
-- ==== Proof.IdealMiddle.lean ====
/- A point neither first nor last. The body runs there. -/
module

public import proofs.«01_k».proof.Proof.IdealBody

@[expose] public section

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4400000 in
/-- A point neither first nor last. -/
theorem bodyRuns_middle (c : Dev nD) (i : grid0.Coords) (h0 : ¬ isFirst i) (h2 : ¬ isLast i) :
    BodyRuns (F := F) c i := by

  intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    x0 x1 x2 x3 x4 x5 E K
  simp only [cc0_dropout_add_ln_fp8_eq_skeleton]; unfold cc0_dropout_add_ln_fp8_skel
  simp only [k0_part78_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, ⟨%d10, %f10, -, H10⟩,
    ⟨%d11, %f11, -, H11⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact h0 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Frame

end
-- ==== Proof.IdealLast.lean ====
/- The last point: the statistics are copied out. The body runs there. -/
module

public import proofs.«01_k».proof.Proof.IdealBody

@[expose] public section

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

instance closedOff1_last : ClosedOff (k0_off1 (coords 35)) := ⟨![0, 8, 0], off1_eq (coords 35)⟩
instance closedOff2_last : ClosedOff (k0_off2 (coords 35)) := ⟨![1, 8, 0], off2_eq (coords 35)⟩
instance closedOff3_last : ClosedOff (k0_off3 (coords 35)) := ⟨![2, 8, 0], off3_eq (coords 35)⟩

set_option maxHeartbeats 4400000 in
/-- The last point: the statistics are copied out. -/
theorem bodyRuns_last (c : Dev nD) (i : grid0.Coords) (h0 : ¬ isFirst i) (h2 : isLast i) :
    BodyRuns (F := F) c i := by
  obtain rfl := isLast_eq i h2
  intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    x0 x1 x2 x3 x4 x5 E K
  simp only [cc0_dropout_add_ln_fp8_eq_skeleton]; unfold cc0_dropout_add_ln_fp8_skel
  simp only [k0_part78_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, ⟨%d10, %f10, -, H10⟩,
    ⟨%d11, %f11, -, H11⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact h0 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Frame

end
-- ==== Proof.IdealFrame.lean ====
/-
  The frame of the kernel: it runs to its end and leaves its six arguments as they were. The contents of the results are
  not named here.
-/
module

public import proofs.«01_k».proof.Proof.IdealFirst
public import proofs.«01_k».proof.Proof.IdealMiddle
public import proofs.«01_k».proof.Proof.IdealLast
public import Idealize.ShloMosaic.Lib.Tactic

@[expose] public section

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The body runs at every grid point. -/
theorem bodyRuns (c : Dev nD) (i : grid0.Coords) : BodyRuns (F := F) c i := by
  by_cases h0 : isFirst i
  · by_cases h2 : isLast i
    · obtain rfl := isLast_eq i h2
      exact absurd h0 (by decide +kernel)
    · exact bodyRuns_first c i h0 h2
  · by_cases h2 : isLast i
    · exact bodyRuns_last c i h0 h2
    · exact bodyRuns_middle c i h0 h2

/-- Window 0's staging buffer at point `t`, and that it is whole. -/
abbrev ms0 (t : Fin cfg0.N) : Memref sig .tc .vmem S32x5120 .bf16 := win0_0.stage (cfg0.slots t 0)
abbrev hs0 (t : Fin cfg0.N) : (ms0 t).IsWhole := hstage0_0 ((cfg0.slots t 0).cast nbuf0_0)
/-- Window 1's staging buffer at point `t`, and that it is whole. -/
abbrev ms1 (t : Fin cfg0.N) : Memref sig .tc .vmem S32x5120 .bf16 := win0_1.stage (cfg0.slots t 1)
abbrev hs1 (t : Fin cfg0.N) : (ms1 t).IsWhole := hstage0_1 ((cfg0.slots t 1).cast nbuf0_1)
/-- Window 2's staging buffer at point `t`, and that it is whole. -/
abbrev ms2 (t : Fin cfg0.N) : Memref sig .tc .vmem S1x5120 .f32 := win0_2.stage (cfg0.slots t 2)
abbrev hs2 (t : Fin cfg0.N) : (ms2 t).IsWhole := hstage0_2 ((cfg0.slots t 2).cast nbuf0_2)
/-- Window 3's staging buffer at point `t`, and that it is whole. -/
abbrev ms3 (t : Fin cfg0.N) : Memref sig .tc .vmem S32x5120 .i32 := win0_3.stage (cfg0.slots t 3)
abbrev hs3 (t : Fin cfg0.N) : (ms3 t).IsWhole := hstage0_3 ((cfg0.slots t 3).cast nbuf0_3)
/-- Window 4's staging buffer at point `t`, and that it is whole. -/
abbrev ms4 (t : Fin cfg0.N) : Memref sig .tc .vmem S1x5120 .f32 := win0_4.stage (cfg0.slots t 4)
abbrev hs4 (t : Fin cfg0.N) : (ms4 t).IsWhole := hstage0_4 ((cfg0.slots t 4).cast nbuf0_4)
/-- Window 5's staging buffer at point `t`, and that it is whole. -/
abbrev ms5 (t : Fin cfg0.N) : Memref sig .tc .vmem S1x5120 .f32 := win0_5.stage (cfg0.slots t 5)
abbrev hs5 (t : Fin cfg0.N) : (ms5 t).IsWhole := hstage0_5 ((cfg0.slots t 5).cast nbuf0_5)
/-- Window 6's staging buffer at point `t`, and that it is whole. -/
abbrev ms6 (t : Fin cfg0.N) : Memref sig .tc .vmem S32x5120 .fp8e4m3 := win0_6.stage (cfg0.slots t 6)
abbrev hs6 (t : Fin cfg0.N) : (ms6 t).IsWhole := hstage0_6 ((cfg0.slots t 6).cast nbuf0_6)
/-- Window 7's staging buffer at point `t`, and that it is whole. -/
abbrev ms7 (t : Fin cfg0.N) : Memref sig .tc .vmem S3x384 .f32 := win0_7.stage (cfg0.slots t 7)
abbrev hs7 (t : Fin cfg0.N) : (ms7 t).IsWhole := hstage0_7 ((cfg0.slots t 7).cast nbuf0_7)
/-- Window 8's staging buffer at point `t`, and that it is whole. -/
abbrev ms8 (t : Fin cfg0.N) : Memref sig .tc .vmem S32x640 .i8 := win0_8.stage (cfg0.slots t 8)
abbrev hs8 (t : Fin cfg0.N) : (ms8 t).IsWhole := hstage0_8 ((cfg0.slots t 8).cast nbuf0_8)
/-- Window 9's staging buffer at point `t`, and that it is whole. -/
abbrev ms9 (t : Fin cfg0.N) : Memref sig .tc .vmem S3x384 .f32 := win0_9.stage (cfg0.slots t 9)
abbrev hs9 (t : Fin cfg0.N) : (ms9 t).IsWhole := hstage0_9 ((cfg0.slots t 9).cast nbuf0_9)
/-- Window 10's staging buffer at point `t`, and that it is whole. -/
abbrev ms10 (t : Fin cfg0.N) : Memref sig .tc .vmem S3x384 .f32 := win0_10.stage (cfg0.slots t 10)
abbrev hs10 (t : Fin cfg0.N) : (ms10 t).IsWhole := hstage0_10 ((cfg0.slots t 10).cast nbuf0_10)
/-- Window 11's staging buffer at point `t`, and that it is whole. -/
abbrev ms11 (t : Fin cfg0.N) : Memref sig .tc .vmem S32x5120 .bf16 := win0_11.stage (cfg0.slots t 11)
abbrev hs11 (t : Fin cfg0.N) : (ms11 t).IsWhole := hstage0_11 ((cfg0.slots t 11).cast nbuf0_11)
/-- Scratch buffer 0. -/
abbrev sc0 : Memref sig .tc .vmem S1024x128 .bf16 := Memref.whole cc0_scratch0
/-- Scratch buffer 1. -/
abbrev sc1 : Memref sig .tc .vmem S32x5120 .f32 := Memref.whole cc0_scratch1
/-- Scratch buffer 2. -/
abbrev sc2 : Memref sig .tc .vmem S32x5120 .f32 := Memref.whole cc0_scratch2
/-- Scratch buffer 3. -/
abbrev sc3 : Memref sig .tc .vmem S3x9x128 .f32 := Memref.whole cc0_scratch3

/-- The pipeline's invariant: every scratch buffer holds something. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ ∃ r, prngReg c r) := by
  unfold Pipeline.ΦA; rw [scopedRest0_eq]; simp only [sc0, sc1, sc2, sc3, owns_whole]; try rfl

variable (m : (ℓ : Loc nD τ sig) → Buf (Elt F) ℓ) (ρ : Dev nD → PrngReg)

/-- The output windows, whose contents are not named. -/
def forgets : Fin 12 → Bool := fun w => 6 ≤ w.val

/-- The pipeline's proof data: the inputs at their blocks, the outputs and the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d)
    ∗ (∃ d, owns (c : Thread nD τ) (ms11 t) fullShare d))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d)
    ∗ (∃ d, owns (c : Thread nD τ) (ms11 t) fullShare d))

/-- An input's buffer is left at its block. -/
theorem leaves_in (c : Dev nD) (t : Fin cfg0.N) (w : Fin cfg0.W) (hi : cfg0.idle w (grid0.coords t) = false) :
    (dats m 0 c).leavesExact w t
      = owns (c : Thread nD τ) ((cfg0.win w).stage (cfg0.slots t w)) fullShare ((dats m 0 c).after w t) := by
  unfold Dat.leavesExact; rw [hi]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    PhiA_eq]
  rw [leaves_in m c t 0 rfl, after0]
  rw [leaves_in m c t 1 rfl, after1]
  rw [leaves_in m c t 2 rfl, after2]
  rw [leaves_in m c t 3 rfl, after3]
  rw [leaves_in m c t 4 rfl, after4]
  rw [leaves_in m c t 5 rfl, after5]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, H6, H7, H8, H9, H10, H11⟩
  iapply (bodyRuns c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- The pipeline's obligation for the body. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every argument ends as it began and every semaphore counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The kernel runs to its end from any memory with every counter at zero; its arguments end unchanged and every counter
    at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩, h.2⟩)
    (run_main m ρ)

end Cert.KernelIdeal.Frame

end
-- ==== Proof.IdealStrips.lean ====
/-
  The row block of 5120 columns as forty strips of 128 columns: what a buffer holds after its strips are written one
  after the other, and what a read of one strip then returns.
-/
module

public import proofs.«01_k».proof.Proof.Gen.KernelIdeal.Skeleton
public import Idealize.ShloMosaic.Lib.Pipeline.Value

@[expose] public section

noncomputable section

namespace Cert.KernelIdeal.Value

open Idealize.ShloMosaic
open Cert.KernelIdeal

variable {Val : EltTy → Type} [∀ e, Nonempty (Val e)] {e : EltTy}

/-- Strip `k` of the block. -/
def strip (k : ℕ) : Rect S32x5120 :=
  Rect.unit (s := S32x5120) ![0, 128 * (k % 40)] S32x128.size (by
    have := Nat.mod_lt k (show 40 > 0 by norm_num)
    intro a; fin_cases a
    · show 0 + 32 ≤ 32; norm_num
    · show 128 * (k % 40) + 128 ≤ 5120; omega)

/-- Strip `k` of a row of 5120 columns. -/
def rowStrip (k : ℕ) : Rect S1x5120 :=
  Rect.unit (s := S1x5120) ![0, 128 * (k % 40)] S1x128.size (by
    have := Nat.mod_lt k (show 40 > 0 by norm_num)
    intro a; fin_cases a
    · show 0 + 1 ≤ 1; norm_num
    · show 128 * (k % 40) + 128 ≤ 5120; omega)

/-- The number of the strip that holds column `y 1`. -/
def stripOf (y : S32x5120.Idx) : ℕ := (y 1).val / 128

/-- The place of an element in its strip. -/
def inStrip (y : S32x5120.Idx) : S32x128.Idx :=
  fun a => match a with
    | ⟨0, _⟩ => ⟨(y 0).val, (y 0).isLt⟩
    | ⟨1, _⟩ => ⟨(y 1).val % 128, Nat.mod_lt _ (by norm_num)⟩

/-- The block whose strip `k` is `v k`. -/
def ofStrips {α : Type} (v : ℕ → S32x128.Idx → α) : S32x5120.Idx → α := fun y => v (stripOf y) (inStrip y)

theorem stripOf_lt (y : S32x5120.Idx) : stripOf y < 40 := by
  have : (y 1).val < 5120 := (y 1).isLt
  unfold stripOf; omega

/-- The element of the block at place `x` of strip `k`. -/
def put (k : ℕ) (x : S32x128.Idx) : S32x5120.Idx := (strip k).idx x

theorem strip_idx_zero (k : ℕ) (x : S32x128.Idx) : (put k x 0).val = (x 0).val := by
  refine (LoadRect.idx_apply _ _ _).trans ?_; show 0 + 1 * (x 0).val = _; omega

theorem strip_idx_one (k : ℕ) (x : S32x128.Idx) : (put k x 1).val = 128 * (k % 40) + (x 1).val := by
  refine (LoadRect.idx_apply _ _ _).trans ?_; show 128 * (k % 40) + 1 * (x 1).val = _; omega

theorem stripOf_idx (k : ℕ) (hk : k < 40) (x : S32x128.Idx) : stripOf (put k x) = k := by
  have : (x 1).val < 128 := (x 1).isLt
  unfold stripOf; rw [strip_idx_one, Nat.mod_eq_of_lt hk]; omega

theorem inStrip_idx (k : ℕ) (x : S32x128.Idx) : inStrip (put k x) = x := by
  have h1 : (x 1).val < 128 := (x 1).isLt
  funext a; fin_cases a
  · exact Fin.ext (strip_idx_zero k x)
  · refine Fin.ext ?_
    show (put k x 1).val % 128 = _
    rw [strip_idx_one]; show _ = (x 1).val; omega

theorem idx_inStrip (y : S32x5120.Idx) : put (stripOf y) (inStrip y) = y := by
  have h : (y 1).val < 5120 := (y 1).isLt
  funext a; fin_cases a
  · refine Fin.ext ?_; rw [show ((⟨0, by decide⟩ : Fin 2)) = 0 from rfl, strip_idx_zero]; rfl
  · refine Fin.ext ?_
    show (put (stripOf y) (inStrip y) 1).val = (y 1).val
    rw [strip_idx_one, Nat.mod_eq_of_lt (stripOf_lt y)]
    show 128 * ((y 1).val / 128) + (y 1).val % 128 = (y 1).val
    omega

/-- An element is in strip `k` exactly when its column is. -/
theorem mem_strip (k : ℕ) (hk : k < 40) (y : S32x5120.Idx) : y ∈ (strip k).set ↔ stripOf y = k := by
  constructor
  · intro h; obtain ⟨x, rfl⟩ := (strip k).exists_idx_of_mem h; exact stripOf_idx k hk x
  · rintro rfl
    have h : put (stripOf y) (inStrip y) ∈ (strip (stripOf y)).set := (strip (stripOf y)).idx_mem _
    rwa [idx_inStrip] at h

/-- The writes of the first `n` strips, the last one first. -/
def stripes (v : ℕ → S32x128.Idx → Val e) (n : ℕ) : List (View.Piece Val S32x5120 e) :=
  Nat.rec (motive := fun _ => List (View.Piece Val S32x5120 e)) [] (fun k L => ⟨strip k, v k⟩ :: L) n

/-- The writes of the first `n` strips over the writes `L`, each payload made from the writes before it. -/
def restripes (L : List (View.Piece Val S32x5120 e)) (p : ℕ → List (View.Piece Val S32x5120 e) → S32x128.Idx → Val e)
    (n : ℕ) : List (View.Piece Val S32x5120 e) :=
  Nat.rec (motive := fun _ => List (View.Piece Val S32x5120 e)) L (fun k L' => ⟨strip k, p k L'⟩ :: L') n

/-- A write of strip `k` is read back in strip `k`, and leaves the others. -/
theorem canon_strip_cons (k : ℕ) (hk : k < 40) (w : S32x128.Idx → Val e) (L : List (View.Piece Val S32x5120 e))
    (y : S32x5120.Idx) :
    View.canon ((⟨strip k, w⟩ : View.Piece Val S32x5120 e) :: L) y
      = if stripOf y = k then w (inStrip y) else View.canon L y := by
  split
  · rename_i h
    conv_lhs => rw [← idx_inStrip y, h]
    exact View.canon_cons_emb (strip k) w L (inStrip y)
  · rename_i h
    exact View.canon_cons_of_not_mem _ _ (by rw [mem_strip k hk]; exact h)

theorem canon_stripes (v : ℕ → S32x128.Idx → Val e) (n : ℕ) (hn : n ≤ 40) (y : S32x5120.Idx) (h : stripOf y < n) :
    View.canon (stripes v n) y = v (stripOf y) (inStrip y) := by
  induction n with
  | zero => exact absurd h (Nat.not_lt_zero _)
  | succ k ih =>
    refine (canon_strip_cons k (by omega) (v k) (stripes v k) y).trans ?_
    split
    · rename_i e; rw [e]
    · exact ih (by omega) (by omega)

/-- Strip `j` reads as written. -/
theorem readCov_stripes {sig : RefSig} {κ : Kind} {sp : Space} (w : View sig κ sp S32x5120 e)
    (v : ℕ → S32x128.Idx → Val e) (j : ℕ) (hj : j < 40) :
    w.readCov (stripes v 40) (strip j).toLoadRect = v j := by
  rw [View.readCov_eq_canon']
  refine funext fun (x : S32x128.Idx) => ?_
  show View.canon (stripes v 40) (put j x) = v j x
  rw [canon_stripes v 40 le_rfl _ (by rw [stripOf_idx j hj]; exact hj), stripOf_idx j hj, inStrip_idx]

theorem canon_restripes (L : List (View.Piece Val S32x5120 e))
    (p : ℕ → List (View.Piece Val S32x5120 e) → S32x128.Idx → Val e) (n : ℕ) (hn : n ≤ 40) (y : S32x5120.Idx) :
    View.canon (restripes L p n) y
      = if stripOf y < n then p (stripOf y) (restripes L p (stripOf y)) (inStrip y) else View.canon L y := by
  induction n with
  | zero => rw [if_neg (Nat.not_lt_zero _)]; rfl
  | succ k ih =>
    refine (canon_strip_cons k (by omega) (p k (restripes L p k)) (restripes L p k) y).trans ?_
    rw [ih (by omega)]
    by_cases h : stripOf y = k
    · rw [if_pos h, if_pos (by omega), h]
    · rw [if_neg h]
      by_cases h' : stripOf y < k
      · rw [if_pos h', if_pos (by omega)]
      · rw [if_neg h', if_neg (by omega)]

/-- Before strip `j` is rewritten it reads as it was before the rewriting. -/
theorem readCov_restripes_below {sig : RefSig} {κ : Kind} {sp : Space} (w : View sig κ sp S32x5120 e)
    (v : ℕ → S32x128.Idx → Val e) (p : ℕ → List (View.Piece Val S32x5120 e) → S32x128.Idx → Val e) (j : ℕ) (hj : j < 40) :
    w.readCov (restripes (stripes v 40) p j) (strip j).toLoadRect = v j := by
  rw [View.readCov_eq_canon']
  refine funext fun (x : S32x128.Idx) => ?_
  show View.canon (restripes (stripes v 40) p j) (put j x) = v j x
  rw [canon_restripes _ p j hj.le, stripOf_idx j hj, if_neg (lt_irrefl _),
    canon_stripes v 40 le_rfl _ (by rw [stripOf_idx j hj]; exact hj), stripOf_idx j hj, inStrip_idx]

/-- After all strips are rewritten strip `j` reads as rewritten. -/
theorem readCov_restripes {sig : RefSig} {κ : Kind} {sp : Space} (w : View sig κ sp S32x5120 e)
    (L : List (View.Piece Val S32x5120 e)) (p : ℕ → List (View.Piece Val S32x5120 e) → S32x128.Idx → Val e) (j : ℕ)
    (hj : j < 40) :
    w.readCov (restripes L p 40) (strip j).toLoadRect = p j (restripes L p j) := by
  rw [View.readCov_eq_canon']
  refine funext fun (x : S32x128.Idx) => ?_
  show View.canon (restripes L p 40) (put j x) = p j (restripes L p j) x
  rw [canon_restripes _ p 40 le_rfl, stripOf_idx j hj, if_pos hj, inStrip_idx]

/-- After all strips are written the buffer reads as the block of the strips, whatever it held before. -/
theorem read_stripes {sig : RefSig} {κ : Kind} {sp : Space} (w : View sig κ sp S32x5120 e) (f : w.ty.Contents Val)
    (v : ℕ → S32x128.Idx → Val e) : w.read Val (w.writes Val f (stripes v 40)) = ofStrips v := by
  have mem : ∀ (n : ℕ) (k : ℕ), k < n → (⟨strip k, v k⟩ : View.Piece Val S32x5120 e) ∈ stripes v n := by
    intro n
    induction n with
    | zero => intro k h; exact absurd h (Nat.not_lt_zero _)
    | succ m ih =>
      intro k h
      rcases Nat.lt_succ_iff_lt_or_eq.mp h with h' | rfl
      · exact List.mem_cons_of_mem _ (ih k h')
      · exact List.mem_cons_self
  rw [View.read_writes_eq_canon w f _ fun y =>
    ⟨_, mem 40 _ (stripOf_lt y), (mem_strip _ (stripOf_lt y) y).2 rfl⟩]
  funext y
  exact canon_stripes v 40 le_rfl y (stripOf_lt y)

/-- Group `g` of the packed mask: 128 columns of its 640. -/
def maskStrip (g : ℕ) : Rect S32x640 :=
  Rect.unit (s := S32x640) ![0, 128 * (g % 5)] S32x128.size (by
    have := Nat.mod_lt g (show 5 > 0 by norm_num)
    intro a; fin_cases a
    · show 0 + 32 ≤ 32; norm_num
    · show 128 * (g % 5) + 128 ≤ 640; omega)

/-- The place of a mask element in its group. -/
def inGroup (y : S32x640.Idx) : S32x128.Idx :=
  fun a => match a with
    | ⟨0, _⟩ => ⟨(y 0).val, (y 0).isLt⟩
    | ⟨1, _⟩ => ⟨(y 1).val % 128, Nat.mod_lt _ (by norm_num)⟩

/-- The writes of the first `n` groups of the packed mask, the last one first. -/
def maskStripes (v : ℕ → S32x128.Idx → Val e) (n : ℕ) : List (View.Piece Val S32x640 e) :=
  Nat.rec (motive := fun _ => List (View.Piece Val S32x640 e)) [] (fun k L => ⟨maskStrip k, v k⟩ :: L) n

/-- After the five groups are written the mask reads as made of them, whatever it held before. -/
theorem read_maskStripes {sig : RefSig} {κ : Kind} {sp : Space} (w : View sig κ sp S32x640 e) (f : w.ty.Contents Val)
    (v : ℕ → S32x128.Idx → Val e) :
    w.read Val (w.writes Val f (maskStripes v 5)) = fun y => v ((y 1).val / 128) (inGroup y) := by
  have coords : ∀ (k : ℕ), k < 5 → ∀ x : S32x128.Idx,
      ((((maskStrip k).idx x : S32x640.Idx) 0).val = (x 0).val)
        ∧ (((maskStrip k).idx x : S32x640.Idx) 1).val = 128 * k + (x 1).val := by
    intro k hk x
    refine ⟨(LoadRect.idx_apply _ _ _).trans ?_, (LoadRect.idx_apply _ _ _).trans ?_⟩
    · show 0 + 1 * (x 0).val = _; omega
    · show 128 * (k % 5) + 1 * (x 1).val = _; rw [Nat.mod_eq_of_lt hk]; omega
  have mem : ∀ (n : ℕ) (k : ℕ), k < n → (⟨maskStrip k, v k⟩ : View.Piece Val S32x640 e) ∈ maskStripes v n := by
    intro n
    induction n with
    | zero => intro k h; exact absurd h (Nat.not_lt_zero _)
    | succ m ih =>
      intro k h
      rcases Nat.lt_succ_iff_lt_or_eq.mp h with h' | rfl
      · exact List.mem_cons_of_mem _ (ih k h')
      · exact List.mem_cons_self
  have all : ∀ (n : ℕ), n ≤ 5 → ∀ p ∈ maskStripes v n, ∀ x : p.1.shape.Idx,
      p.2 x = (fun y : S32x640.Idx => v ((y 1).val / 128) (inGroup y)) (p.1.emb x) := by
    intro n
    induction n with
    | zero => intro _ p hp; cases hp
    | succ k ih =>
      intro hk p hp
      rcases List.mem_cons.mp hp with rfl | hp'
      · refine fun (x : S32x128.Idx) => ?_
        obtain ⟨h0, h1⟩ := coords k (by omega) x
        have hx : (x 1).val < 128 := (x 1).isLt
        have e : inGroup ((maskStrip k).idx x) = x := by
          funext a; fin_cases a
          · exact Fin.ext h0
          · refine Fin.ext ?_
            show (((maskStrip k).idx x : S32x640.Idx) 1).val % 128 = (x 1).val
            rw [h1]; omega
        show v k x = v ((((maskStrip k).idx x : S32x640.Idx) 1).val / 128) (inGroup ((maskStrip k).idx x))
        rw [e, h1, show (128 * k + (x 1).val) / 128 = k by omega]
      · exact ih (by omega) p hp'
  have cov : ∀ y : S32x640.Idx, ∃ p ∈ maskStripes v 5, y ∈ p.1.set := by
    intro y
    have hy : (y 1).val < 640 := (y 1).isLt
    refine ⟨_, mem 5 ((y 1).val / 128) (by omega), ?_⟩
    obtain ⟨h0, h1⟩ := coords ((y 1).val / 128) (by omega) (inGroup y)
    have e : ((maskStrip ((y 1).val / 128)).idx (inGroup y) : S32x640.Idx) = y := by
      funext a; fin_cases a
      · exact Fin.ext h0
      · refine Fin.ext (h1.trans ?_)
        show 128 * ((y 1).val / 128) + (y 1).val % 128 = (y 1).val
        omega
    have h := (maskStrip ((y 1).val / 128)).idx_mem (inGroup y)
    rw [e] at h
    exact h
  rw [View.read_writes_eq_canon w f _ cov]
  funext y
  exact View.canon_apply_of_pieces (fun y : S32x640.Idx => v ((y 1).val / 128) (inGroup y)) _ (all 5 le_rfl) y (cov y)

end Cert.KernelIdeal.Value

end
-- ==== Proof.IdealStages.lean ====
/-
  The values the body computes at one grid point, strip by strip, as functions of the strips of its inputs: the residual
  sum, the row mean, the centred block, the reciprocal deviation, the normalised block, the exponent of the row's
  scale, the codes, the packed mask and the three lines of the row statistics.
-/
module

public import proofs.«01_k».proof.Proof.IdealStrips

@[expose] public section

noncomputable section

namespace Cert.KernelIdeal.Value

open Idealize.ShloMosaic
open Cert.KernelIdeal Cert.KernelIdeal.Gen

variable {F : FTy → Type} [FloatOps F] [Named F]

/-- Zero everywhere on a strip. -/
def zeros : FVec F S32x128 .f32 := broadcast S32x128 (Scalar.ofBits .f32 0x00000000#32)

/-- Which elements of a strip are kept. -/
def keep (R : ℕ → IVec S32x128 32) (j : ℕ) : IVec S32x128 1 :=
  cmpi .uge (shapeCast S32x128 (R j) shapeCasts_S32x128_S32x128) (broadcast S32x128 429496730#32)

/-- One where an element is kept, zero elsewhere. -/
def bit (R : ℕ → IVec S32x128 32) (j : ℕ) : FVec F S32x128 .f32 :=
  select (keep R j) (broadcast S32x128 (Scalar.ofBits .f32 0x3F800000#32)) zeros

/-- The scaled branch with its bias. -/
def branch (A : ℕ → FVec F S32x128 .bf16) (B : ℕ → FVec F S1x128 .f32) (j : ℕ) : FVec F S32x128 .f32 :=
  mulf (addf (extf .f32 (shapeCast S32x128 (A j) shapeCasts_S32x128_S32x128) bitsLt_bf16_f32)
      (broadcastTo S32x128 (shapeCast S1x128 (B j) shapeCasts_S1x128_S1x128) broadcasts_S1x128_S32x128))
    (broadcast S32x128 (Scalar.ofBits .f32 0x3F8E38E4#32))

/-- The residual sum, rounded. -/
def hval (X A : ℕ → FVec F S32x128 .bf16) (B : ℕ → FVec F S1x128 .f32) (R : ℕ → IVec S32x128 32) (j : ℕ) :
    FVec F S32x128 .bf16 :=
  truncf .bf16 (addf (extf .f32 (shapeCast S32x128 (X j) shapeCasts_S32x128_S32x128) bitsLt_bf16_f32)
    (select (keep R j) (branch A B j) zeros)) bitsLt_bf16_f32

/-- The sum of the first `n` strips of `f`, from zero. -/
def acc (f : ℕ → FVec F S32x128 .f32) (n : ℕ) : FVec F S32x128 .f32 :=
  Nat.rec (motive := fun _ => FVec F S32x128 .f32) zeros (fun k a => addf a (f k)) n

/-- The largest absolute value over the first `n` strips of `f`, from zero. -/
def accTop (f : ℕ → FVec F S32x128 .f32) (n : ℕ) : FVec F S32x128 .f32 :=
  Nat.rec (motive := fun _ => FVec F S32x128 .f32) zeros (fun k a => maximumf a (absf (f k))) n

/-- The row sums of a strip, times the reciprocal of the number of columns. -/
def rowMean (t : FVec F S32x128 .f32) : FVec F S32x1 .f32 :=
  mulf (shapeCast S32x1 (multiReduction .add [1] S32 t 0x00000000#32 reduces_S32x128_S32 (.inl rfl) rfl) shapeCasts_S32_S32x1)
    (broadcast S32x1 (Named.named κ "inv_d" 0x394CCCCD#32))

/-- A strip less its row means. -/
def centre (v : FVec F S32x128 .f32) (m : FVec F S32x1 .f32) : FVec F S32x128 .f32 :=
  subf v (broadcastTo S32x128 m broadcasts_S32x1_S32x128)

/-- The reciprocal deviation of the rows, from the sum of squares. -/
def rstdOf (q : FVec F S32x128 .f32) : FVec F S32x1 .f32 :=
  rsqrt (addf (rowMean q) (broadcast S32x1 (Scalar.ofBits .f32 0x3727C5AC#32)))

/-- A centred strip normalised, times `gamma` plus `beta`. -/
def normed (v : FVec F S32x128 .f32) (r : FVec F S32x1 .f32) (g b : FVec F S1x128 .f32) : FVec F S32x128 .f32 :=
  addf (mulf (mulf v (broadcastTo S32x128 r broadcasts_S32x1_S32x128))
      (broadcastTo S32x128 (shapeCast S1x128 g shapeCasts_S1x128_S1x128) broadcasts_S1x128_S32x128))
    (broadcastTo S32x128 (shapeCast S1x128 b shapeCasts_S1x128_S1x128) broadcasts_S1x128_S32x128)

/-- The row's largest absolute value over 448, on every lane. -/
def scaled (t : FVec F S32x128 .f32) : FVec F S32x128 .f32 :=
  mulf (broadcastTo S32x128 (shapeCast S32x1 (shapeCast S32x1
      (multiReduction .maximumf [1] S32 t 0xFF800000#32 reduces_S32x128_S32 (.inl rfl) rfl) shapeCasts_S32_S32x1)
      shapeCasts_S32x1_S32x1) broadcasts_S32x1_S32x128) (broadcast S32x128 (Scalar.ofBits .f32 0x3B124925#32))

/-- The float whose word has `b` as its exponent field. -/
def powField (b : IVec S32x128 32) : FVec F S32x128 .f32 := bitcastToFloat .f32 (shli b (broadcast S32x128 23#32))

/-- One step of the search: `s` is added where `t` reaches the float of the raised exponent field. -/
def probe (t : FVec F S32x128 .f32) (b : IVec S32x128 32) (s : BitVec 32) : IVec S32x128 32 :=
  select (cmpf .oge t (powField (addi b (broadcast S32x128 s)))) (addi b (broadcast S32x128 s)) b

/-- The exponent field of `t` found by eight comparisons. -/
def field (t : FVec F S32x128 .f32) : IVec S32x128 32 :=
  probe t (probe t (probe t (probe t (probe t (probe t (probe t (probe t (broadcast S32x128 0#32) 128#32) 64#32) 32#32)
    16#32) 8#32) 4#32) 2#32) 1#32

/-- The field, 255 from `2 ^ 120` on. -/
def biased (t : FVec F S32x128 .f32) : IVec S32x128 32 :=
  select (cmpf .olt t (broadcast S32x128 (Scalar.ofBits .f32 0x7B800000#32))) (field t) (broadcast S32x128 255#32)

/-- The exponent of the row's scale. -/
def expo (t : FVec F S32x128 .f32) : IVec S32x128 32 :=
  select (ori (cmpf .oeq t (broadcast S32x128 (Scalar.ofBits .f32 0x00000000#32)))
      (cmpi .eq (biased t) (broadcast S32x128 255#32)))
    (broadcast S32x128 0#32) (subi (biased t) (broadcast S32x128 126#32))

/-- Two to the power `e`. -/
def pow2 (e : IVec S32x128 32) : FVec F S32x128 .f32 := powField (addi e (broadcast S32x128 127#32))

/-- The codes of a strip. -/
def codesOf (y : FVec F S32x128 .f32) (e : IVec S32x128 32) : FVec F S32x128 .fp8e4m3 :=
  truncf .fp8e4m3 (minimumf (broadcast S32x128 (Scalar.ofBits .f32 0x43E00000#32))
    (maximumf (broadcast S32x128 (Scalar.ofBits .f32 0xC3E00000#32))
      (mulf y (pow2 (subi (broadcast S32x128 0#32) e))))) bitsLt_fp8e4m3_f32

/-- The packed mask of a group of eight strips. -/
def maskOf (R : ℕ → IVec S32x128 32) (W : FVec F S1024x128 .bf16) (g : ℕ) : IVec S32x128 8 :=
  trunci 8 (fptosi 32 (matmul dot_S32x1024_S1024x128_S32x128_1_0_0_1_n_n none
    (truncf .bf16 (concatenate S32x1024 1 [⟨S32x128, bit (F := F) R (8 * g)⟩, ⟨S32x128, bit R (8 * g + 1)⟩,
      ⟨S32x128, bit R (8 * g + 2)⟩, ⟨S32x128, bit R (8 * g + 3)⟩, ⟨S32x128, bit R (8 * g + 4)⟩, ⟨S32x128, bit R (8 * g + 5)⟩,
      ⟨S32x128, bit R (8 * g + 6)⟩, ⟨S32x128, bit R (8 * g + 7)⟩]
      concatenates_S32x128_S32x128_S32x128_S32x128_S32x128_S32x128_S32x128_S32x128_S32x1024_d1) bitsLt_bf16_f32)
    W (constant S32x128 .f32 0x00000000#32))) natLt_8_32

/-- The index of the first row of the point's block in its tile of 128 rows, over 32. -/
def quarter (i : grid0.Coords) : BitVec 32 :=
  Scalar.select (Scalar.andi (Scalar.xori (Scalar.cmpi .slt (Scalar.remsi (BitVec.ofNat 32 (i 0).val) 4#32) 0#32) 0#1)
      (Scalar.cmpi .ne (Scalar.remsi (BitVec.ofNat 32 (i 0).val) 4#32) 0#32))
    (Scalar.addi (Scalar.remsi (BitVec.ofNat 32 (i 0).val) 4#32) 4#32) (Scalar.remsi (BitVec.ofNat 32 (i 0).val) 4#32)

/-- Whether the block is the first of its tile. -/
def firstOf (i : grid0.Coords) : BitVec 1 := Scalar.cmpi .eq (quarter i) 0#32

/-- The lanes that hold the block's own rows: row `r` sits on lane `32 q + r`. -/
def diag (i : grid0.Coords) : IVec S32x128 1 :=
  cmpi .eq (iota .tc S32x128 32 [1] iota_S32x128_d1_w32)
    (addi (iota .tc S32x128 32 [0] iota_S32x128_d0_w32) (broadcast S32x128 (Scalar.muli (quarter i) 32#32)))

/-- A line of the statistics with the block's 32 values put in. -/
def lineOf (i : grid0.Coords) (v : FVec F S32x128 .f32) (old : FVec F S1x1x128 .f32) : FVec F S1x1x128 .f32 :=
  shapeCast S1x1x128 (Scalar.select (firstOf i)
    (shapeCast S1x128 (multiReduction .add [0] S128 (select (diag i) v zeros) 0x00000000#32 reduces_S32x128_S128 (.inl rfl) rfl) shapeCasts_S128_S1x128)
    (addf (shapeCast S1x128 old shapeCasts_S1x1x128_S1x128)
      (shapeCast S1x128 (multiReduction .add [0] S128 (select (diag i) v zeros) 0x00000000#32 reduces_S32x128_S128 (.inl rfl) rfl) shapeCasts_S128_S1x128)))
    shapeCasts_S1x128_S1x1x128

/-- A column on every lane. -/
def spread (m : FVec F S32x1 .f32) : FVec F S32x128 .f32 :=
  broadcastTo S32x128 (shapeCast S32x1 m shapeCasts_S32x1_S32x1) broadcasts_S32x1_S32x128

/-! ### The stages over the strips of the inputs -/

/-- The residual sum as the body goes on with it. -/
def hf (X A : ℕ → FVec F S32x128 .bf16) (B : ℕ → FVec F S1x128 .f32) (R : ℕ → IVec S32x128 32) (j : ℕ) :
    FVec F S32x128 .f32 := extf .f32 (hval X A B R j) bitsLt_bf16_f32

/-- The row means. -/
def meanOf (h : ℕ → FVec F S32x128 .f32) : FVec F S32x1 .f32 := rowMean (acc h 40)

/-- The writes of the centred block over the writes of the residual sum. -/
def centreWrites (m : FVec F S32x1 .f32) (h : ℕ → FVec F S32x128 .f32)
    (v : View sig .tc .vmem S32x5120 .f32) (n : ℕ) : List (View.Piece (Elt F) S32x5120 .f32) :=
  restripes (stripes (e := .f32) (fun j => shapeCast S32x128 (h j) shapeCasts_S32x128_S32x128) 40)
    (fun k L => shapeCast S32x128 (centre (v.readCov L (strip k).toLoadRect) m) shapeCasts_S32x128_S32x128) n

end Cert.KernelIdeal.Value

end
-- ==== Proof.IdealBlock.lean ====
/-
  The blocks the body leaves at one grid point, as functions of its input blocks, and that the buffers it wrote strip by
  strip read as those blocks.
-/
module

public import proofs.«01_k».proof.Proof.IdealStages

@[expose] public section

noncomputable section

namespace Cert.KernelIdeal.Value

open Idealize.ShloMosaic
open Cert.KernelIdeal Cert.KernelIdeal.Gen

variable {F : FTy → Type} [FloatOps F] [Named F]

/-- The strips of a block. -/
def stripsOf {α : Type} (x : S32x5120.Idx → α) (j : ℕ) : S32x128.Idx → α := fun y => x (put j y)

/-- The strips of a row of 5120 columns. -/
def rowStripsOf {α : Type} (x : S1x5120.Idx → α) (j : ℕ) : S1x128.Idx → α := fun y => x ((rowStrip j).idx y)

/-- The centred strips. -/
def cS (h : ℕ → FVec F S32x128 .f32) (k : ℕ) : FVec F S32x128 .f32 := centre (h k) (meanOf h)

/-- The reciprocal deviations. -/
def rS (h : ℕ → FVec F S32x128 .f32) : FVec F S32x1 .f32 := rstdOf (acc (fun k => mulf (cS h k) (cS h k)) 40)

/-- The normalised strips. -/
def yS (h : ℕ → FVec F S32x128 .f32) (G B : ℕ → FVec F S1x128 .f32) (k : ℕ) : FVec F S32x128 .f32 :=
  normed (cS h k) (rS h) (G k) (B k)

/-- The exponents of the rows' scales. -/
def eS (y : ℕ → FVec F S32x128 .f32) : IVec S32x128 32 := expo (scaled (accTop y 40))

/-! ### The same values as the body reads them back from its buffers -/

/-- The centred strip `k`, the residual sum read back just before strip `k` is centred. -/
def cRaw (h : ℕ → FVec F S32x128 .f32) (v : View sig .tc .vmem S32x5120 .f32) (k : ℕ) : FVec F S32x128 .f32 :=
  centre (v.readCov (centreWrites (meanOf h) h v k) (strip k).toLoadRect) (meanOf h)

/-- The reciprocal deviations from these. -/
def rRaw (h : ℕ → FVec F S32x128 .f32) (v : View sig .tc .vmem S32x5120 .f32) : FVec F S32x1 .f32 :=
  rstdOf (acc (fun k => mulf (cRaw h v k) (cRaw h v k)) 40)

/-- The normalised strip `k`, the centred one read back after all are written. -/
def yRaw (h : ℕ → FVec F S32x128 .f32) (G B : ℕ → FVec F S1x128 .f32) (v : View sig .tc .vmem S32x5120 .f32) (k : ℕ) :
    FVec F S32x128 .f32 :=
  normed (v.readCov (centreWrites (meanOf h) h v 40) (strip k).toLoadRect) (rRaw h v) (G k) (B k)

/-- The codes of strip `k`, the normalised one read back after all are written. -/
def codeRaw (y : ℕ → FVec F S32x128 .f32) (v : View sig .tc .vmem S32x5120 .f32) (k : ℕ) : FVec F S32x128 .fp8e4m3 :=
  codesOf (v.readCov (stripes (Val := Elt F) (e := .f32) (fun j => shapeCast S32x128 (y j) shapeCasts_S32x128_S32x128) 40) (strip k).toLoadRect)
    (eS y)

theorem acc_congr (f g : ℕ → FVec F S32x128 .f32) (n : ℕ) (h : ∀ k, k < n → f k = g k) : acc f n = acc g n := by
  induction n with
  | zero => rfl
  | succ k ih =>
    show addf (acc f k) (f k) = addf (acc g k) (g k)
    rw [ih fun j hj => h j (by omega), h k (by omega)]

theorem accTop_congr (f g : ℕ → FVec F S32x128 .f32) (n : ℕ) (h : ∀ k, k < n → f k = g k) : accTop f n = accTop g n := by
  induction n with
  | zero => rfl
  | succ k ih =>
    show maximumf (accTop f k) (absf (f k)) = maximumf (accTop g k) (absf (g k))
    rw [ih fun j hj => h j (by omega), h k (by omega)]

theorem cRaw_eq (h : ℕ → FVec F S32x128 .f32) (v : View sig .tc .vmem S32x5120 .f32) (k : ℕ) (hk : k < 40) :
    cRaw h v k = cS h k := by
  unfold cRaw cS centreWrites
  rw [readCov_restripes_below v _ _ k hk, shapeCast_self]

theorem rRaw_eq (h : ℕ → FVec F S32x128 .f32) (v : View sig .tc .vmem S32x5120 .f32) : rRaw h v = rS h := by
  unfold rRaw rS
  rw [acc_congr _ _ 40 fun k hk => by rw [cRaw_eq h v k hk]]

theorem yRaw_eq (h : ℕ → FVec F S32x128 .f32) (G B : ℕ → FVec F S1x128 .f32) (v : View sig .tc .vmem S32x5120 .f32) (k : ℕ)
    (hk : k < 40) : yRaw h G B v k = yS h G B k := by
  have e : v.readCov (centreWrites (meanOf h) h v 40) (strip k).toLoadRect = cS h k := by
    unfold centreWrites
    rw [readCov_restripes v _ _ k hk, shapeCast_self]
    exact cRaw_eq h v k hk
  unfold yRaw yS
  rw [e, rRaw_eq]

theorem eS_congr (f g : ℕ → FVec F S32x128 .f32) (h : ∀ k, k < 40 → f k = g k) : eS f = eS g := by
  unfold eS; rw [accTop_congr f g 40 h]

theorem codeRaw_eq (y : ℕ → FVec F S32x128 .f32) (v : View sig .tc .vmem S32x5120 .f32) (k : ℕ) (hk : k < 40) :
    codeRaw y v k = codesOf (y k) (eS y) := by
  unfold codeRaw
  rw [readCov_stripes v _ k hk, shapeCast_self]

theorem ofStrips_congr {α : Type} (f g : ℕ → S32x128.Idx → α) (h : ∀ k, k < 40 → f k = g k) : ofStrips f = ofStrips g := by
  funext y; unfold ofStrips; rw [h _ (stripOf_lt y)]

/-! ### The blocks -/

/-- The strips of the residual sum of a point's blocks. -/
def hStrips (x0 x1 : Vec F S32x5120 .bf16) (x2 : Vec F S1x5120 .f32) (x3 : Vec F S32x5120 .i32) : ℕ → FVec F S32x128 .bf16 :=
  hval (stripsOf x0) (stripsOf x1) (rowStripsOf x2) (stripsOf x3)

/-- The same in the wider format. -/
def hfStrips (x0 x1 : Vec F S32x5120 .bf16) (x2 : Vec F S1x5120 .f32) (x3 : Vec F S32x5120 .i32) : ℕ → FVec F S32x128 .f32 :=
  hf (stripsOf x0) (stripsOf x1) (rowStripsOf x2) (stripsOf x3)

/-- The normalised strips of a point's blocks. -/
def yStrips (x0 x1 : Vec F S32x5120 .bf16) (x2 : Vec F S1x5120 .f32) (x3 : Vec F S32x5120 .i32) (x4 x5 : Vec F S1x5120 .f32) :
    ℕ → FVec F S32x128 .f32 :=
  yS (hfStrips x0 x1 x2 x3) (rowStripsOf x4) (rowStripsOf x5)

/-- The block of the residual sum. -/
def hBlk (x0 x1 : Vec F S32x5120 .bf16) (x2 : Vec F S1x5120 .f32) (x3 : Vec F S32x5120 .i32) : Vec F S32x5120 .bf16 :=
  ofStrips (hStrips x0 x1 x2 x3)

/-- The block of codes. -/
def codesBlk (x0 x1 : Vec F S32x5120 .bf16) (x2 : Vec F S1x5120 .f32) (x3 : Vec F S32x5120 .i32) (x4 x5 : Vec F S1x5120 .f32) :
    Vec F S32x5120 .fp8e4m3 :=
  ofStrips fun k => codesOf (yStrips x0 x1 x2 x3 x4 x5 k) (eS (yStrips x0 x1 x2 x3 x4 x5))

/-- The block of the packed mask. -/
def maskBlk (x3 : Vec F S32x5120 .i32) (W : Vec F S1024x128 .bf16) : Vec F S32x640 .i8 :=
  fun y => maskOf (stripsOf x3) W ((y 1).val / 128) (inGroup y)

/-- The three values of each row, on every lane: its scale, its mean and its reciprocal deviation. -/
def statVals (x0 x1 : Vec F S32x5120 .bf16) (x2 : Vec F S1x5120 .f32) (x3 : Vec F S32x5120 .i32) (x4 x5 : Vec F S1x5120 .f32)
    (k : Fin 3) : FVec F S32x128 .f32 :=
  ![pow2 (eS (yStrips x0 x1 x2 x3 x4 x5)), spread (meanOf (hfStrips x0 x1 x2 x3)), spread (rS (hfStrips x0 x1 x2 x3))] k

/-- Line `t` of plane `k` of the statistics. -/
def lineAt {α : Type} (s : S3x9x128.Idx → α) (k : Fin 3) (t : Fin 9) : S1x1x128.Idx → α :=
  fun x => s fun a => match a with | ⟨0, _⟩ => k | ⟨1, _⟩ => t | ⟨2, _⟩ => x 2

/-- Lane `l` of a line. -/
def lane (l : Fin 128) : S1x1x128.Idx := fun a => match a with | ⟨0, _⟩ => (0 : Fin 1) | ⟨1, _⟩ => (0 : Fin 1) | ⟨2, _⟩ => l

/-- The statistics after a point has put its values in. -/
def statStep (i : grid0.Coords) (v : Fin 3 → FVec F S32x128 .f32) (s : Vec F S3x9x128 .f32) : Vec F S3x9x128 .f32 :=
  fun y => if (y 1).val = (i 0).val / 4
    then lineOf i (v (y 0)) (lineAt s (y 0) (y 1)) (lane (y 2))
    else s y

/-- A plane of the statistics laid out as three rows of 384. -/
def statPlane {α : Type} (k : Fin 3) (s : S3x9x128.Idx → α) : S3x384.Idx → α :=
  fun y => s fun a => match a with
    | ⟨0, _⟩ => k
    | ⟨1, _⟩ => (⟨3 * (y 0).val + (y 1).val / 128, by
        have h0 : (y 0).val < 3 := (y 0).isLt; have h1 : (y 1).val < 384 := (y 1).isLt; show _ < 9; omega⟩ : Fin 9)
    | ⟨2, _⟩ => (⟨(y 1).val % 128, Nat.mod_lt _ (by norm_num)⟩ : Fin 128)

/-- The matrix of bit weights: `2 ^ (c mod 8)` where column `b` is `c div 8`, zero elsewhere. -/
def weights : Vec F S1024x128 .bf16 := k0_pay28

section Read

variable (x0 x1 : Vec F S32x5120 .bf16) (x2 : Vec F S1x5120 .f32) (x3 : Vec F S32x5120 .i32) (x4 x5 : Vec F S1x5120 .f32)
  (X A : ℕ → FVec F S32x128 .bf16) (B G C : ℕ → FVec F S1x128 .f32) (R : ℕ → IVec S32x128 32)
  (hX : X = stripsOf x0) (hA : A = stripsOf x1) (hB : B = rowStripsOf x2) (hR : R = stripsOf x3)
  (hG : G = rowStripsOf x4) (hC : C = rowStripsOf x5)

include hX hA hB hR in
theorem read_h (w : View sig .tc .vmem S32x5120 .bf16) (f : w.ty.Contents (Elt F)) :
    w.read (Elt F) (w.writes (Elt F) f (stripes (e := .bf16) (hval X A B R) 40)) = hBlk x0 x1 x2 x3 := by
  subst hX hA hB hR
  exact read_stripes w f _

include hX hA hB hR hG hC in
theorem read_codes (v14 v15 : View sig .tc .vmem S32x5120 .f32) (w : View sig .tc .vmem S32x5120 .fp8e4m3) (f : w.ty.Contents (Elt F)) :
    w.read (Elt F) (w.writes (Elt F) f (stripes (e := .fp8e4m3) (codeRaw (yRaw (hf X A B R) G C v14) v15) 40))
      = codesBlk x0 x1 x2 x3 x4 x5 := by
  subst hX hA hB hR hG hC
  refine (read_stripes w f _).trans (ofStrips_congr _ _ fun k hk => ?_)
  rw [codeRaw_eq _ _ k hk, yRaw_eq _ _ _ _ k hk, eS_congr _ _ fun j hj => yRaw_eq _ _ _ _ j hj]
  rfl

include hR in
theorem read_mask (w : View sig .tc .vmem S32x640 .i8) (f : w.ty.Contents (Elt F)) (W V : Vec F S1024x128 .bf16) (hW : W = V) :
    w.read (Elt F) (w.writes (Elt F) f (maskStripes (e := .i8) (maskOf R W) 5)) = maskBlk x3 V := by
  subst hR hW
  exact read_maskStripes w f _

include hX hA hB hR hG hC in
/-- The three values as the body computes them are those of the blocks. -/
theorem statRaw_eq (v14 : View sig .tc .vmem S32x5120 .f32) :
    (![pow2 (eS (yRaw (hf X A B R) G C v14)), spread (meanOf (hf X A B R)), spread (rRaw (hf X A B R) v14)]
      : Fin 3 → FVec F S32x128 .f32) = statVals x0 x1 x2 x3 x4 x5 := by
  subst hX hA hB hR hG hC
  rw [rRaw_eq, eS_congr _ _ fun j hj => yRaw_eq _ _ _ _ j hj]
  funext k
  rfl

end Read

/-- Line `t` of plane `k` as a rectangle. -/
theorem mem_line (off : Fin 3 → ℕ) (inb : ∀ a, off a + S1x1x128.size a ≤ S3x9x128.size a) (k t : ℕ) (h : off = ![k, t, 0])
    (y : S3x9x128.Idx) : y ∈ (Rect.unit (s := S3x9x128) off S1x1x128.size inb).set ↔ (y 0).val = k ∧ (y 1).val = t := by
  subst h
  rw [Rect.mem_set_unit]
  have h2 : (y 2).val < 128 := (y 2).isLt
  constructor
  · intro h
    have a0 := h 0; have a1 := h 1
    simp [S1x1x128] at a0 a1
    omega
  · rintro ⟨e0, e1⟩ a
    fin_cases a
    · simp [S1x1x128]; omega
    · simp [S1x1x128]; omega
    · simp [S1x1x128]; omega

/-- Reading back a line just written. -/
theorem read_line_hit (w : View sig .tc .vmem S3x9x128 .f32) (f : w.ty.Contents (Elt F)) (off : Fin 3 → ℕ)
    (inb : ∀ a, off a + S1x1x128.size a ≤ S3x9x128.size a) (p : S1x1x128.Idx → F .f32)
    (L : List (View.Piece (Elt F) S3x9x128 .f32)) (y : S3x9x128.Idx) (h : off = ![(y 0).val, (y 1).val, 0]) :
    w.read (Elt F) (w.writes (Elt F) f (⟨Rect.unit (s := S3x9x128) off S1x1x128.size inb, p⟩ :: L)) y
      = p (lane (y 2)) := by
  subst h
  refine View.read_writes_cons_hit (Val := Elt F) w f (Rect.unit (s := S3x9x128) _ S1x1x128.size inb) p L
    (lane (y 2)) y ?_
  funext a
  refine Fin.ext ((LoadRect.idx_apply _ _ _).trans ?_)
  fin_cases a
  · rfl
  · rfl
  · show 0 + 1 * (y 2).val = _; simp

/-- A line as it was read before. -/
theorem readAt_line (w : View sig .tc .vmem S3x9x128 .f32) (f : w.ty.Contents (Elt F)) (off : Fin 3 → ℕ)
    (inb : ∀ a, off a + S1x1x128.size a ≤ S3x9x128.size a) (k : Fin 3) (t : Fin 9) (h : off = ![k.val, t.val, 0]) :
    w.readAt (Elt F) (Rect.unit (s := S3x9x128) off S1x1x128.size inb).toLoadRect f = lineAt (w.read (Elt F) f) k t := by
  subst h
  refine funext fun (x : S1x1x128.Idx) => ?_
  refine congrArg (w.read (Elt F) f) ?_
  have h0 : (x 0).val < 1 := (x 0).isLt
  have h1 : (x 1).val < 1 := (x 1).isLt
  funext a
  refine Fin.ext ((LoadRect.idx_apply _ _ _).trans ?_)
  fin_cases a
  · show k.val + 1 * (x 0).val = k.val; omega
  · show t.val + 1 * (x 1).val = t.val; omega
  · show 0 + 1 * (x 2).val = (x 2).val; omega

/-- The three writes of a point's lines leave the statistics stepped. -/
theorem read_stat (i : grid0.Coords) (v v' : Fin 3 → FVec F S32x128 .f32) (hv : v = v') (w : View sig .tc .vmem S3x9x128 .f32)
    (f : w.ty.Contents (Elt F)) (o1 o2 o3 : Fin 3 → ℕ)
    (n1 : ∀ a, o1 a + S1x1x128.size a ≤ S3x9x128.size a) (n2 : ∀ a, o2 a + S1x1x128.size a ≤ S3x9x128.size a)
    (n3 : ∀ a, o3 a + S1x1x128.size a ≤ S3x9x128.size a)
    (h1 : o1 = ![0, (i 0).val / 4, 0]) (h2 : o2 = ![1, (i 0).val / 4, 0]) (h3 : o3 = ![2, (i 0).val / 4, 0]) :
    w.read (Elt F) (w.writes (Elt F) f
        [⟨Rect.unit (s := S3x9x128) o3 S1x1x128.size n3, lineOf i (v 2) (w.readAt (Elt F) (Rect.unit (s := S3x9x128) o3 S1x1x128.size n3).toLoadRect f)⟩,
         ⟨Rect.unit (s := S3x9x128) o2 S1x1x128.size n2, lineOf i (v 1) (w.readAt (Elt F) (Rect.unit (s := S3x9x128) o2 S1x1x128.size n2).toLoadRect f)⟩,
         ⟨Rect.unit (s := S3x9x128) o1 S1x1x128.size n1, lineOf i (v 0) (w.readAt (Elt F) (Rect.unit (s := S3x9x128) o1 S1x1x128.size n1).toLoadRect f)⟩])
      = statStep i v' (w.read (Elt F) f) := by
  subst hv
  have hi : (i 0).val < 36 := (i 0).isLt
  rw [readAt_line w f o1 n1 0 ⟨(i 0).val / 4, by omega⟩ h1, readAt_line w f o2 n2 1 ⟨(i 0).val / 4, by omega⟩ h2,
    readAt_line w f o3 n3 2 ⟨(i 0).val / 4, by omega⟩ h3]
  funext y
  have miss : ∀ (o : Fin 3 → ℕ) (n) (k : ℕ) (p : S1x1x128.Idx → F .f32) (L : List (View.Piece (Elt F) S3x9x128 .f32)),
      o = ![k, (i 0).val / 4, 0] → ¬ ((y 0).val = k ∧ (y 1).val = (i 0).val / 4) →
      w.read (Elt F) (w.writes (Elt F) f (⟨Rect.unit (s := S3x9x128) o S1x1x128.size n, p⟩ :: L)) y
        = w.read (Elt F) (w.writes (Elt F) f L) y := fun o n k p L ho hy =>
    View.read_writes_cons_miss (Val := Elt F) w f _ L y fun hm => hy ((mem_line o n k _ ho y).1 hm)
  have h0 : (y 0).val < 3 := (y 0).isLt
  unfold statStep
  by_cases ht : (y 1).val = (i 0).val / 4
  · rw [if_pos ht]
    have et : y 1 = (⟨(i 0).val / 4, by omega⟩ : Fin 9) := Fin.ext ht
    obtain e | e | e : (y 0).val = 0 ∨ (y 0).val = 1 ∨ (y 0).val = 2 := by omega
    · rw [miss o3 n3 2 _ _ h3 (by omega), miss o2 n2 1 _ _ h2 (by omega),
        read_line_hit w f o1 n1 _ _ y (by rw [e, ht]; exact h1), et, show y 0 = (0 : Fin 3) from Fin.ext e]
    · rw [miss o3 n3 2 _ _ h3 (by omega),
        read_line_hit w f o2 n2 _ _ y (by rw [e, ht]; exact h2), et, show y 0 = (1 : Fin 3) from Fin.ext e]
    · rw [read_line_hit w f o3 n3 _ _ y (by rw [e, ht]; exact h3), et, show y 0 = (2 : Fin 3) from Fin.ext e]
  · rw [if_neg ht, miss o3 n3 2 _ _ h3 (by omega), miss o2 n2 1 _ _ h2 (by omega), miss o1 n1 0 _ _ h1 (by omega)]
    rfl

/-- A read of the whole bit-weight buffer. -/
theorem readAt_weights (w : View sig .tc .vmem S1024x128 .bf16) (f : w.ty.Contents (Elt F))
    (inb : ∀ a, (![0, 0] : Fin 2 → ℕ) a + S1024x128.size a ≤ S1024x128.size a) :
    w.readAt (Elt F) (Rect.unit (s := S1024x128) ![0, 0] S1024x128.size inb).toLoadRect f = w.read (Elt F) f := by
  refine funext fun (x : S1024x128.Idx) => congrArg (w.read (Elt F) f) ?_
  funext a
  refine Fin.ext ((LoadRect.idx_apply _ _ _).trans ?_)
  fin_cases a
  · show 0 + 1 * (x 0).val = (x 0).val; omega
  · show 0 + 1 * (x 1).val = (x 1).val; omega

/-- After its only write the bit-weight buffer holds what was written. -/
theorem read_weights (w : View sig .tc .vmem S1024x128 .bf16) (f : w.ty.Contents (Elt F))
    (inb : ∀ a, (![0, 0] : Fin 2 → ℕ) a + S1024x128.size a ≤ S1024x128.size a) (p : Vec F S1024x128 .bf16) :
    w.read (Elt F) (w.writes (Elt F) f [⟨Rect.unit (s := S1024x128) ![0, 0] S1024x128.size inb, p⟩]) = p := by
  funext x
  refine View.read_writes_cons_hit (Val := Elt F) w f (Rect.unit (s := S1024x128) ![0, 0] S1024x128.size inb) p [] x x ?_
  funext a
  refine Fin.ext ((LoadRect.idx_apply _ _ _).trans ?_)
  fin_cases a
  · show 0 + 1 * (x 0).val = (x 0).val; omega
  · show 0 + 1 * (x 1).val = (x 1).val; omega

/-- and a read of it meanwhile. -/
theorem readCov_weights (w : View sig .tc .vmem S1024x128 .bf16)
    (inb : ∀ a, (![0, 0] : Fin 2 → ℕ) a + S1024x128.size a ≤ S1024x128.size a) (p : Vec F S1024x128 .bf16) :
    w.readCov [(⟨Rect.unit (s := S1024x128) ![0, 0] S1024x128.size inb, p⟩ : View.Piece (Elt F) S1024x128 .bf16)]
      (Rect.unit (s := S1024x128) ![0, 0] S1024x128.size inb).toLoadRect = p :=
  (readAt_weights w _ inb).trans (read_weights w _ inb p)

/-- A strip of an input block. -/
theorem readAt_strip {e : EltTy} (r : Memref sig .tc .vmem S32x5120 e) (hr : r.IsWhole) (x : Vec F S32x5120 e) :
    (fun j => r.view.readAt (Elt F) (strip j).toLoadRect (hr.unread x)) = stripsOf x := by
  funext j
  show (fun y => r.view.read (Elt F) (hr.unread x) (put j y)) = _
  rw [hr.read_unread]; rfl

/-- A strip of an input row. -/
theorem readAt_rowStrip {e : EltTy} (r : Memref sig .tc .vmem S1x5120 e) (hr : r.IsWhole) (x : Vec F S1x5120 e) :
    (fun j => r.view.readAt (Elt F) (rowStrip j).toLoadRect (hr.unread x)) = rowStripsOf x := by
  funext j
  show (fun y => r.view.read (Elt F) (hr.unread x) ((rowStrip j).idx y)) = _
  rw [hr.read_unread]; rfl

end Cert.KernelIdeal.Value

end
-- ==== Proof.IdealRows.lean ====
/-
  The last point copies the statistics out: each plane, nine lines of 128, becomes three rows of 384.
-/
module

public import proofs.«01_k».proof.Proof.IdealBlock

@[expose] public section

noncomputable section

namespace Cert.KernelIdeal.Value

open Idealize.ShloMosaic
open Cert.KernelIdeal Cert.KernelIdeal.Gen

variable {F : FTy → Type} [FloatOps F] [Named F]

/-- Piece `t` of the nine: the lanes `128 (t mod 3)` on of row `t div 3`. -/
def rowRect (t : ℕ) : Rect S3x384 :=
  Rect.unit (s := S3x384) ![t % 9 / 3, 128 * (t % 3)] S1x128.size (by
    have := Nat.mod_lt t (show 9 > 0 by norm_num)
    have := Nat.mod_lt t (show 3 > 0 by norm_num)
    intro a; fin_cases a
    · show t % 9 / 3 + 1 ≤ 3; omega
    · show 128 * (t % 3) + 128 ≤ 384; omega)

/-- Line `t` of plane `k` of the statistics, as a rectangle. -/
def lineRect (k : Fin 3) (t : ℕ) : Rect S3x9x128 :=
  Rect.unit (s := S3x9x128) ![k.val, t % 9, 0] S1x1x128.size (by
    have := Nat.mod_lt t (show 9 > 0 by norm_num)
    have := k.isLt
    intro a; fin_cases a
    · show k.val + 1 ≤ 3; omega
    · show t % 9 + 1 ≤ 9; omega
    · show 0 + 128 ≤ 128; omega)

/-- The writes of the first `n` pieces, the last one first. -/
def rowWrites (v : ℕ → S1x128.Idx → F .f32) (n : ℕ) : List (View.Piece (Elt F) S3x384 .f32) :=
  Nat.rec (motive := fun _ => List (View.Piece (Elt F) S3x384 .f32)) [] (fun t L => ⟨rowRect t, v t⟩ :: L) n

/-- The place on a line of a place in its piece. -/
theorem shapeCast_line (v : S1x1x128.Idx → F .f32) (x : S1x128.Idx) :
    shapeCast S1x128 v shapeCasts_S1x1x128_S1x128 x = v (lane (x 1)) := by
  have h0 : (x 0).val < 1 := (x 0).isLt
  refine shapeCast_apply v _ x (lane (x 1)) ?_
  rw [Shape.rowMajor_val_three, Shape.rowMajor_val_two]
  show (0 * 1 + 0) * 128 + (x 1).val = (x 0).val * 128 + (x 1).val
  omega

/-- Lane `l` of a piece. -/
def lanes (l : Fin 128) : S1x128.Idx := fun a => match a with | ⟨0, _⟩ => (0 : Fin 1) | ⟨1, _⟩ => l

/-- Lane `l` of line `t` of plane `k`. -/
def statIdx (k : Fin 3) (t : Fin 9) (l : Fin 128) : S3x9x128.Idx :=
  fun a => match a with | ⟨0, _⟩ => k | ⟨1, _⟩ => t | ⟨2, _⟩ => l

/-- The coordinates of a place of piece `t`. -/
theorem rowRect_coords (t : ℕ) (ht : t < 9) (x : S1x128.Idx) :
    (((rowRect t).idx x : S3x384.Idx) 0).val = t / 3
      ∧ (((rowRect t).idx x : S3x384.Idx) 1).val = 128 * (t % 3) + (x 1).val := by
  have h0 : (x 0).val < 1 := (x 0).isLt
  refine ⟨(LoadRect.idx_apply _ _ _).trans ?_, (LoadRect.idx_apply _ _ _).trans ?_⟩
  · show t % 9 / 3 + 1 * (x 0).val = _; omega
  · show 128 * (t % 3) + 1 * (x 1).val = _; omega

/-- Nine pieces that hold the lines of plane `k` of `s` leave that plane. -/
theorem read_pieces (v : View sig .tc .vmem S3x384 .f32) (g : v.ty.Contents (Elt F)) (k : Fin 3) (s : Vec F S3x9x128 .f32)
    {q : ℕ → S1x128.Idx → F .f32}
    (h : ∀ t, t < 9 → ∀ l : Fin 128, q t (lanes l) = s (statIdx k ⟨t % 9, Nat.mod_lt _ (by norm_num)⟩ l)) :
    v.read (Elt F) (v.writes (Elt F) g (rowWrites q 9)) = statPlane k s := by
  have mem : ∀ (n : ℕ) (t : ℕ), t < n → (⟨rowRect t, q t⟩ : View.Piece (Elt F) S3x384 .f32) ∈ rowWrites q n := by
    intro n
    induction n with
    | zero => intro k h; exact absurd h (Nat.not_lt_zero _)
    | succ m ih =>
      intro k h
      rcases Nat.lt_succ_iff_lt_or_eq.mp h with h' | rfl
      · exact List.mem_cons_of_mem _ (ih k h')
      · exact List.mem_cons_self
  have all : ∀ (n : ℕ), n ≤ 9 → ∀ p ∈ rowWrites q n, ∀ x : p.1.shape.Idx, p.2 x = statPlane k s (p.1.emb x) := by
    intro n
    induction n with
    | zero => intro _ p hp; cases hp
    | succ t ih =>
      intro ht p hp
      rcases List.mem_cons.mp hp with rfl | hp'
      · refine fun (x : S1x128.Idx) => ?_
        obtain ⟨h0, h1⟩ := rowRect_coords t (by omega) x
        have hx0 : (x 0).val < 1 := (x 0).isLt
        have hx : (x 1).val < 128 := (x 1).isLt
        have ex : x = lanes (x 1) := by
          funext a; fin_cases a
          · refine Fin.ext ?_; show (x 0).val = 0; omega
          · rfl
        refine (congrArg (q t) ex).trans ((h t (by omega) (x 1)).trans (congrArg s ?_))
        funext a
        fin_cases a
        · rfl
        · refine Fin.ext ?_
          show t % 9 = 3 * (((rowRect t).idx x : S3x384.Idx) 0).val + (((rowRect t).idx x : S3x384.Idx) 1).val / 128
          rw [h0, h1]; omega
        · refine Fin.ext ?_
          show (x 1).val = (((rowRect t).idx x : S3x384.Idx) 1).val % 128
          rw [h1]; omega
      · exact ih (by omega) p hp'
  have cov : ∀ y : S3x384.Idx, ∃ p ∈ rowWrites q 9, y ∈ p.1.set := by
    intro y
    have hy0 : (y 0).val < 3 := (y 0).isLt
    have hy : (y 1).val < 384 := (y 1).isLt
    refine ⟨_, mem 9 (3 * (y 0).val + (y 1).val / 128) (by omega), ?_⟩
    obtain ⟨h0, h1⟩ := rowRect_coords (3 * (y 0).val + (y 1).val / 128) (by omega)
      (lanes ⟨(y 1).val % 128, Nat.mod_lt _ (by norm_num)⟩)
    have e : ((rowRect (3 * (y 0).val + (y 1).val / 128)).idx (lanes ⟨(y 1).val % 128, Nat.mod_lt _ (by norm_num)⟩) : S3x384.Idx) = y := by
      funext a; fin_cases a
      · refine Fin.ext (h0.trans ?_)
        show (3 * (y 0).val + (y 1).val / 128) / 3 = (y 0).val; omega
      · refine Fin.ext (h1.trans ?_)
        show 128 * ((3 * (y 0).val + (y 1).val / 128) % 3) + (y 1).val % 128 = (y 1).val
        omega
    have h := (rowRect (3 * (y 0).val + (y 1).val / 128)).idx_mem (lanes ⟨(y 1).val % 128, Nat.mod_lt _ (by norm_num)⟩)
    rw [e] at h
    exact h
  rw [View.read_writes_eq_canon v g _ cov]
  funext y
  exact View.canon_apply_of_pieces (statPlane k s) _ (all 9 le_rfl) y (cov y)

/-- Nine pieces, each with the values of its line of plane `k` of `s`, leave that plane. -/
theorem read_rows (k : Fin 3) (s : Vec F S3x9x128 .f32) (v : View sig .tc .vmem S3x384 .f32) (g : v.ty.Contents (Elt F))
    (n0 : ∀ a, ![0, 0] a + S1x128.size a ≤ S3x384.size a) (n1 : ∀ a, ![0, 128] a + S1x128.size a ≤ S3x384.size a)
    (n2 : ∀ a, ![0, 256] a + S1x128.size a ≤ S3x384.size a) (n3 : ∀ a, ![1, 0] a + S1x128.size a ≤ S3x384.size a)
    (n4 : ∀ a, ![1, 128] a + S1x128.size a ≤ S3x384.size a) (n5 : ∀ a, ![1, 256] a + S1x128.size a ≤ S3x384.size a)
    (n6 : ∀ a, ![2, 0] a + S1x128.size a ≤ S3x384.size a) (n7 : ∀ a, ![2, 128] a + S1x128.size a ≤ S3x384.size a)
    (n8 : ∀ a, ![2, 256] a + S1x128.size a ≤ S3x384.size a) (q0 q1 q2 q3 q4 q5 q6 q7 q8 : S1x128.Idx → F .f32)
    (h0 : ∀ l, q0 (lanes l) = s (statIdx k 0 l)) (h1 : ∀ l, q1 (lanes l) = s (statIdx k 1 l))
    (h2 : ∀ l, q2 (lanes l) = s (statIdx k 2 l)) (h3 : ∀ l, q3 (lanes l) = s (statIdx k 3 l))
    (h4 : ∀ l, q4 (lanes l) = s (statIdx k 4 l)) (h5 : ∀ l, q5 (lanes l) = s (statIdx k 5 l))
    (h6 : ∀ l, q6 (lanes l) = s (statIdx k 6 l)) (h7 : ∀ l, q7 (lanes l) = s (statIdx k 7 l))
    (h8 : ∀ l, q8 (lanes l) = s (statIdx k 8 l)) :
    v.read (Elt F) (v.writes (Elt F) g [⟨Rect.unit (s := S3x384) ![2, 256] S1x128.size n8, q8⟩,
      ⟨Rect.unit (s := S3x384) ![2, 128] S1x128.size n7, q7⟩, ⟨Rect.unit (s := S3x384) ![2, 0] S1x128.size n6, q6⟩,
      ⟨Rect.unit (s := S3x384) ![1, 256] S1x128.size n5, q5⟩, ⟨Rect.unit (s := S3x384) ![1, 128] S1x128.size n4, q4⟩,
      ⟨Rect.unit (s := S3x384) ![1, 0] S1x128.size n3, q3⟩, ⟨Rect.unit (s := S3x384) ![0, 256] S1x128.size n2, q2⟩,
      ⟨Rect.unit (s := S3x384) ![0, 128] S1x128.size n1, q1⟩, ⟨Rect.unit (s := S3x384) ![0, 0] S1x128.size n0, q0⟩])
      = statPlane k s :=
  read_pieces v g k s (q := fun t => match t with
    | 0 => q0 | 1 => q1 | 2 => q2 | 3 => q3 | 4 => q4 | 5 => q5 | 6 => q6 | 7 => q7 | _ => q8) fun t ht => by
    interval_cases t
    exacts [h0, h1, h2, h3, h4, h5, h6, h7, h8]

/-- A line that a point does not step, copied out as it stood. -/
theorem copy_old (i : grid0.Coords) (vals : Fin 3 → FVec F S32x128 .f32) (w : View sig .tc .vmem S3x9x128 .f32)
    (f : w.ty.Contents (Elt F)) (o : Fin 3 → ℕ) (n : ∀ a, o a + S1x1x128.size a ≤ S3x9x128.size a) (k : Fin 3) (t : Fin 9)
    (ho : o = ![k.val, t.val, 0]) (ht : t.val ≠ (i 0).val / 4) (l : Fin 128) :
    shapeCast S1x128 (w.readAt (Elt F) (Rect.unit (s := S3x9x128) o S1x1x128.size n).toLoadRect f) shapeCasts_S1x1x128_S1x128 (lanes l)
      = statStep i vals (w.read (Elt F) f) (statIdx k t l) := by
  rw [shapeCast_line, readAt_line w f o n k t ho]
  unfold statStep
  rw [if_neg (show ¬ (statIdx k t l 1).val = (i 0).val / 4 from ht)]
  rfl

/-- The line a point steps, copied out as the point's writes leave it. -/
theorem copy_new (k : Fin 3) (w : View sig .tc .vmem S3x9x128 .f32) (f : w.ty.Contents (Elt F))
    (o1 o2 o3 : Fin 3 → ℕ)
    (n1 : ∀ a, o1 a + S1x1x128.size a ≤ S3x9x128.size a) (n2 : ∀ a, o2 a + S1x1x128.size a ≤ S3x9x128.size a)
    (n3 : ∀ a, o3 a + S1x1x128.size a ≤ S3x9x128.size a) (p1 p2 p3 : S1x1x128.Idx → F .f32)
    (h1 : o1 = ![0, 8, 0]) (h2 : o2 = ![1, 8, 0]) (h3 : o3 = ![2, 8, 0])
    (s : Vec F S3x9x128 .f32)
    (hs : w.read (Elt F) (w.writes (Elt F) f [⟨Rect.unit (s := S3x9x128) o3 S1x1x128.size n3, p3⟩,
      ⟨Rect.unit (s := S3x9x128) o2 S1x1x128.size n2, p2⟩, ⟨Rect.unit (s := S3x9x128) o1 S1x1x128.size n1, p1⟩]) = s)
    (o : Fin 3 → ℕ) (n : ∀ a, o a + S1x1x128.size a ≤ S3x9x128.size a) (ho : o = ![k.val, 8, 0]) (l : Fin 128) :
    shapeCast S1x128 (w.readCov [⟨Rect.unit (s := S3x9x128) o3 S1x1x128.size n3, p3⟩,
      ⟨Rect.unit (s := S3x9x128) o2 S1x1x128.size n2, p2⟩, ⟨Rect.unit (s := S3x9x128) o1 S1x1x128.size n1, p1⟩]
      (Rect.unit (s := S3x9x128) o S1x1x128.size n).toLoadRect) shapeCasts_S1x1x128_S1x128 (lanes l) = s (statIdx k 8 l) := by
  subst ho hs
  rw [shapeCast_line]
  have e : ∀ fx : w.ty.Contents (Elt F), w.readAt (Elt F) (lineRect k 8).toLoadRect fx (lane l)
      = w.read (Elt F) fx (statIdx k 8 l) :=
    fun fx => congrFun (readAt_line w fx _ _ k 8 rfl) (lane l)
  refine (congrFun (View.readAt_writes_of_cover w f [⟨Rect.unit (s := S3x9x128) o3 S1x1x128.size n3, p3⟩,
    ⟨Rect.unit (s := S3x9x128) o2 S1x1x128.size n2, p2⟩, ⟨Rect.unit (s := S3x9x128) o1 S1x1x128.size n1, p1⟩]
    (lineRect k 8).toLoadRect ?_).symm (lane l)).trans (e _)
  intro j
  have hk : k.val < 3 := k.isLt
  have m : ∀ (o : Fin 3 → ℕ) n, o = ![k.val, 8, 0] → ((lineRect k 8).idx j) ∈ (Rect.unit (s := S3x9x128) o S1x1x128.size n).set := by
    intro o n ho
    refine (mem_line o n k.val 8 ho _).2 ⟨?_, ?_⟩
    · refine (LoadRect.idx_apply _ _ _).trans ?_
      have : (j 0).val < 1 := (j 0).isLt
      show k.val + 1 * (j 0).val = _; omega
    · refine (LoadRect.idx_apply _ _ _).trans ?_
      have : (j 1).val < 1 := (j 1).isLt
      show 8 + 1 * (j 1).val = _; omega
  obtain e | e | e : k.val = 0 ∨ k.val = 1 ∨ k.val = 2 := by omega
  · exact ⟨_, List.mem_cons_of_mem _ (List.mem_cons_of_mem _ List.mem_cons_self), m o1 n1 (by rw [e]; exact h1)⟩
  · exact ⟨_, List.mem_cons_of_mem _ List.mem_cons_self, m o2 n2 (by rw [e]; exact h2)⟩
  · exact ⟨_, List.mem_cons_self, m o3 n3 (by rw [e]; exact h3)⟩

/-- `lineOf` with the block's position in its tile given by a bit and by its lanes. -/
def lineGen (b : BitVec 1) (dg : IVec S32x128 1) (v : FVec F S32x128 .f32) (old : FVec F S1x1x128 .f32) : FVec F S1x1x128 .f32 :=
  shapeCast S1x1x128 (Scalar.select b
    (shapeCast S1x128 (multiReduction .add [0] S128 (select dg v zeros) 0x00000000#32 reduces_S32x128_S128 (.inl rfl) rfl) shapeCasts_S128_S1x128)
    (addf (shapeCast S1x128 old shapeCasts_S1x1x128_S1x128)
      (shapeCast S1x128 (multiReduction .add [0] S128 (select dg v zeros) 0x00000000#32 reduces_S32x128_S128 (.inl rfl) rfl) shapeCasts_S128_S1x128)))
    shapeCasts_S1x128_S1x1x128

theorem lineGen_eq (i : grid0.Coords) (b : BitVec 1) (dg : IVec S32x128 1) (hb : b = firstOf i) (hd : dg = diag i)
    (v : FVec F S32x128 .f32) (old : FVec F S1x1x128 .f32) : lineGen b dg v old = lineOf i v old := by
  subst hb hd; rfl

/-- The lanes of the rows of a block, from its position `q` in its tile. -/
def diagGen (q : BitVec 32) : IVec S32x128 1 :=
  cmpi .eq (iota .tc S32x128 32 [1] iota_S32x128_d1_w32)
    (addi (iota .tc S32x128 32 [0] iota_S32x128_d0_w32) (broadcast S32x128 (Scalar.muli q 32#32)))

theorem diagGen_eq (i : grid0.Coords) (q : BitVec 32) (h : q = quarter i) : diagGen q = diag i := by
  subst h; rfl

/-- `read_stat` of three pieces that are known to be the new lines. -/
theorem read_stat_of (i : grid0.Coords) (v v' : Fin 3 → FVec F S32x128 .f32) (hv : v = v') (w : View sig .tc .vmem S3x9x128 .f32)
    (f : w.ty.Contents (Elt F)) (o1 o2 o3 : Fin 3 → ℕ)
    (n1 : ∀ a, o1 a + S1x1x128.size a ≤ S3x9x128.size a) (n2 : ∀ a, o2 a + S1x1x128.size a ≤ S3x9x128.size a)
    (n3 : ∀ a, o3 a + S1x1x128.size a ≤ S3x9x128.size a)
    (h1 : o1 = ![0, (i 0).val / 4, 0]) (h2 : o2 = ![1, (i 0).val / 4, 0]) (h3 : o3 = ![2, (i 0).val / 4, 0])
    (p1 p2 p3 : FVec F S1x1x128 .f32)
    (e1 : p1 = lineOf i (v 0) (w.readAt (Elt F) (Rect.unit (s := S3x9x128) o1 S1x1x128.size n1).toLoadRect f))
    (e2 : p2 = lineOf i (v 1) (w.readAt (Elt F) (Rect.unit (s := S3x9x128) o2 S1x1x128.size n2).toLoadRect f))
    (e3 : p3 = lineOf i (v 2) (w.readAt (Elt F) (Rect.unit (s := S3x9x128) o3 S1x1x128.size n3).toLoadRect f)) :
    w.read (Elt F) (w.writes (Elt F) f
        [⟨Rect.unit (s := S3x9x128) o3 S1x1x128.size n3, p3⟩, ⟨Rect.unit (s := S3x9x128) o2 S1x1x128.size n2, p2⟩,
         ⟨Rect.unit (s := S3x9x128) o1 S1x1x128.size n1, p1⟩])
      = statStep i v' (w.read (Elt F) f) := by
  subst e1 e2 e3
  exact read_stat i v v' hv w f o1 o2 o3 n1 n2 n3 h1 h2 h3

end Cert.KernelIdeal.Value

end
-- ==== Proof.Spec.lean ====
/-
  What both programs compute of one row of 5120 columns, in extended reals.
-/
module

public import Idealize.ShloMosaic.PureOps.Ideal.Laws

@[expose] public section

noncomputable section

namespace Cert.Spec

open Idealize.ShloMosaic
open scoped BigOperators

/-- A row of values. -/
abbrev Row : Type := Fin 5120 → EReal

/-- Whether an element of this random word is kept. -/
def kept (r : BitVec 32) : BitVec 1 := IntOp.cmpi .uge r 429496730#32

/-- The residual sum of one element: `x` plus the scaled branch where it is kept. -/
def resid (x a b : EReal) (r : BitVec 32) : EReal :=
  x + Scalar.select (kept r) ((a + b) * Ideal.ofBits .f32 0x3F8E38E4#32) 0

/-- The mean of a row. -/
def mean (f : Row) : EReal := (∑ j, f j) * ((1 / 5120 : ℝ) : EReal)

/-- The row less its mean. -/
def cent (f : Row) : Row := fun j => f j - mean f

/-- The reciprocal deviation of a row. -/
def rstd (f : Row) : EReal := Ideal.rsqrt (mean (fun j => cent f j * cent f j) + Ideal.ofBits .f32 0x3727C5AC#32)

/-- The row normalised. -/
def norm (f g b : Row) : Row := fun j => cent f j * rstd f * g j + b j

/-- The largest absolute value of a row. -/
def top (y : Row) : EReal := Finset.univ.sup fun j => max (y j) (-(y j))

/-- That over 448, as the programs' constant gives it. -/
def ratio (y : Row) : EReal := top y * Ideal.ofBits .f32 0x3B124925#32

/-- Two to an integer power. -/
def pw (n : ℤ) : EReal := (((2 : ℝ) ^ n : ℝ) : EReal)

/-- How many of the powers `2 ^ -126 … 2 ^ 120` are at most `t`. -/
def count (t : EReal) : ℕ := ((Finset.range 247).filter fun k : ℕ => pw ((k : ℤ) - 126) ≤ t).card

/-- The exponent of a row's scale. -/
def expo (y : Row) : ℤ := if top y = 0 ∨ pw 120 ≤ ratio y then 0 else (count (ratio y) : ℤ) - 126

/-- One scaled and clipped element, as the codes are cast from. -/
def code (y : Row) (j : Fin 5120) : EReal :=
  min (Ideal.ofBits .f32 0x43E00000#32) (max (Ideal.ofBits .f32 0xC3E00000#32) (y j * pw (-expo y)))

/-- Eight mask bits packed into a byte, the first lowest. -/
def pack (r : Fin 8 → BitVec 32) : BitVec 8 := BitVec.ofNat 8 (∑ j : Fin 8, (kept (r j)).toNat * 2 ^ j.val)

theorem count_le (t : EReal) : count t ≤ 247 :=
  (Finset.card_filter_le _ _).trans (by simp)

theorem expo_ge (y : Row) : -126 ≤ expo y := by unfold expo; split <;> omega

theorem pw_strictMono : StrictMono pw := fun a b h =>
  EReal.coe_lt_coe_iff.2 (zpow_lt_zpow_right₀ (by norm_num) h)

theorem pw_pos (n : ℤ) : 0 < pw n := EReal.coe_pos.2 (by positivity)

/-- Below `2 ^ 120` at most 246 of the powers are reached. -/
theorem count_le_of_lt {t : EReal} (h : t < pw 120) : count t ≤ 246 := by
  have : ((Finset.range 247).filter fun k : ℕ => pw ((k : ℤ) - 126) ≤ t) ⊆ Finset.range 246 := by
    intro k hk
    simp only [Finset.mem_filter, Finset.mem_range] at hk ⊢
    by_contra hc
    obtain rfl : k = 246 := by omega
    exact absurd (hk.2.trans_lt h) (by norm_num)
  exact (Finset.card_le_card this).trans (by simp)

theorem expo_le (y : Row) : expo y ≤ 120 := by
  unfold expo
  split
  · omega
  · have := count_le_of_lt (t := ratio y) (not_le.1 fun h => by simp_all)
    omega

theorem top_nonneg (y : Row) : 0 ≤ top y := by
  have h : max (y 0) (-(y 0)) ≤ top y := Finset.le_sup (f := fun j => max (y j) (-(y j))) (Finset.mem_univ (0 : Fin 5120))
  refine le_trans ?_ h
  rcases le_total 0 (y 0) with h0 | h0
  · exact le_max_of_le_left h0
  · exact le_max_of_le_right (EReal.neg_nonneg.2 h0)

/-! ### The float constants -/

theorem ofBits_5120 : Ideal.ofBits .f32 0x45A00000#32 = ((5120 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = 1 := by
  rw [← EReal.coe_one]; simp [Ideal.ofBits, Ideal.ieee, -EReal.coe_mul, -EReal.coe_one]; norm_num

theorem ofBits_bot : Ideal.ofBits .f32 0xFF800000#32 = ⊥ := by
  simp [Ideal.ofBits, Ideal.ieee, -EReal.coe_mul]

theorem ofBits_top_pow : Ideal.ofBits .f32 0x7B800000#32 = pw 120 := by
  simp [Ideal.ofBits, Ideal.ieee, -EReal.coe_mul, pw, -EReal.coe_pow]; norm_num

/-- The constant over 448 is a positive real. -/
theorem ofBits_ratio : ∃ r : ℝ, 0 < r ∧ Ideal.ofBits .f32 0x3B124925#32 = (r : EReal) := by
  refine ⟨_, ?_, by simp only [Ideal.ofBits, Ideal.ieee]; rfl⟩
  rw [if_neg (by decide)]
  positivity

/-- The float whose exponent field is `n`, as an extended real. -/
def fieldPow (n : ℕ) : EReal := if n = 0 then 0 else if n < 255 then pw ((n : ℤ) - 127) else ⊤

theorem ofBits_field (n : ℕ) (hn : n ≤ 255) : Ideal.ofBits .f32 (BitVec.ofNat 32 n <<< 23) = fieldPow n := by
  have h1 : (BitVec.ofNat 32 n <<< 23).extractLsb' (8 + 23) 1 = 0#1 := by
    apply BitVec.eq_of_toNat_eq
    simp [BitVec.extractLsb'_toNat, Nat.shiftLeft_eq, Nat.shiftRight_eq_div_pow]; omega
  have h2 : ((BitVec.ofNat 32 n <<< 23).extractLsb' 23 8).toNat = n := by
    simp [BitVec.extractLsb'_toNat, Nat.shiftLeft_eq, Nat.shiftRight_eq_div_pow]; omega
  have h3 : ((BitVec.ofNat 32 n <<< 23).extractLsb' 0 23).toNat = 0 := by
    simp [BitVec.extractLsb'_toNat, Nat.shiftLeft_eq]
  unfold Ideal.ofBits Ideal.ieee fieldPow pw
  simp only [h1, h2, h3]
  by_cases a : n = 255
  · subst a; norm_num
  · by_cases b : n = 0
    · subst b; simp
    · have c : n < 255 := by omega
      simp only [b, c, if_false, if_true, show ¬ n = 2 ^ 8 - 1 by omega]
      refine congrArg _ ?_
      rw [show ((n : ℤ) - 127) = ((23 : ℕ) : ℤ) + ((n : ℤ) - (2 ^ (8 - 1) - 1) - (23 : ℕ)) by norm_num, zpow_add₀ (by norm_num),
        zpow_natCast, if_neg (by decide)]
      push_cast
      ring

/-! ### Words -/

/-- Adding up words that stand for natural numbers. -/
theorem fold_addi {ι : Type} (s : Finset ι) (g : ι → ℕ) :
    s.fold IntOp.addi (0#32) (fun k => BitVec.ofNat 32 (g k)) = BitVec.ofNat 32 (∑ k ∈ s, g k) := by
  classical
  induction s using Finset.induction_on with
  | empty => rfl
  | insert a s ha ih =>
    rw [Finset.fold_insert ha, Finset.sum_insert ha, ih]
    exact (BitVec.ofNat_add _ _).symm

theorem toInt_small (n : ℤ) (h1 : -255 ≤ n) (h2 : n ≤ 255) : (BitVec.ofInt 32 n).toInt = n := by
  rw [BitVec.toInt_ofInt]; exact Int.bmod_eq_of_le (by norm_num; omega) (by norm_num; omega)

/-- Words that stand for small integers add as these do. -/
theorem ofInt_add (a b : ℤ) : BitVec.ofInt 32 a + BitVec.ofInt 32 b = BitVec.ofInt 32 (a + b) := (BitVec.ofInt_add ..).symm

theorem ofInt_sub (a b : ℤ) : BitVec.ofInt 32 a - BitVec.ofInt 32 b = BitVec.ofInt 32 (a - b) := by
  rw [sub_eq_add_neg a b, BitVec.ofInt_add, BitVec.ofInt_neg, BitVec.sub_eq_add_neg]

theorem pow_two (n : ℤ) : Ideal.pow (Ideal.ofBits .f32 0x40000000#32) ((n : ℝ) : EReal) = pw n := by
  rw [ofBits_two, Ideal.pow_coe_coe]
  exact congrArg _ (Real.rpow_intCast 2 n)

/-- The eight columns of byte `b`. -/
def bitCol (b : Fin 640) (j : Fin 8) : Fin 5120 := ⟨8 * b.val + j.val, by omega⟩

/-- The exponent as the programs select it. -/
theorem expo_word (y : Row) :
    Scalar.select (IntOp.ori (Ideal.cmp .oeq (top y) 0) (Ideal.cmp .oge (ratio y) (pw 120))) 0#32
      (BitVec.ofNat 32 (count (ratio y)) - 126#32) = BitVec.ofInt 32 (expo y) := by
  unfold expo Ideal.cmp
  by_cases h1 : top y = 0
  · by_cases h2 : pw 120 ≤ ratio y <;> simp [h1, h2, Scalar.select, IntOp.ori]
  by_cases h2 : pw 120 ≤ ratio y
  · simp [h1, h2, Scalar.select, IntOp.ori]
  · rw [if_neg (by simp [h1, h2]), ← ofInt_sub, BitVec.ofInt_natCast]
    simp [h1, h2, Scalar.select, IntOp.ori]

end Cert.Spec

end
-- ==== Proof.Search.lean ====
/-
  The exponent of a positive extended real below `2 ^ 120`, found by eight comparisons with the floats of single exponent
  fields, is the number of powers of two from `2 ^ -126` on that it reaches.
-/
module

public import proofs.«01_k».proof.Proof.Spec

@[expose] public section

noncomputable section

namespace Cert.Spec

open Idealize.ShloMosaic
open scoped BigOperators

theorem fieldPow_mono {a b : ℕ} (h : a ≤ b) : fieldPow a ≤ fieldPow b := by
  unfold fieldPow
  by_cases a0 : a = 0
  · rw [if_pos a0]
    split
    · exact le_rfl
    · split
      · exact (pw_pos _).le
      · exact le_top
  rw [if_neg a0, if_neg (show ¬ b = 0 by omega)]
  by_cases b5 : b < 255
  · rw [if_pos b5, if_pos (by omega)]; exact pw_strictMono.monotone (by omega)
  · rw [if_neg b5]; exact le_top

/-- One step of the search, in natural numbers. -/
def probeN (t : EReal) (b s : ℕ) : ℕ := if fieldPow (b + s) ≤ t then b + s else b

theorem probeN_le (t : EReal) (b s : ℕ) : probeN t b s ≤ b + s := by unfold probeN; split <;> omega

/-- A step keeps the searched value between the field's float and the one `s` fields up. -/
theorem probeN_inv {t : EReal} {b s : ℕ} (h : fieldPow b ≤ t ∧ t < fieldPow (b + 2 * s)) :
    fieldPow (probeN t b s) ≤ t ∧ t < fieldPow (probeN t b s + s) := by
  unfold probeN
  split
  · rename_i h'; exact ⟨h', by rw [add_assoc, ← two_mul]; exact h.2⟩
  · rename_i h'; exact ⟨h.1, not_le.1 h'⟩

/-- A word shifted to the exponent field's place. -/
theorem shli_field (x : BitVec 32) : IntOp.shli .vector x 23#32 = x <<< 23 := rfl

/-- One step of the search, in words. -/
def probeW (t : EReal) (b s : BitVec 32) : BitVec 32 :=
  Scalar.select (Ideal.cmp .oge t (Ideal.ofBits .f32 (IntOp.shli .vector (b + s) 23#32))) (b + s) b

theorem probeW_eq (t : EReal) (b s : ℕ) (h : b + s ≤ 255) :
    probeW t (BitVec.ofNat 32 b) (BitVec.ofNat 32 s) = BitVec.ofNat 32 (probeN t b s) := by
  unfold probeW probeN
  rw [← BitVec.ofNat_add, shli_field, ofBits_field _ h]
  unfold Ideal.cmp
  by_cases h' : fieldPow (b + s) ≤ t
  · simp [h', Scalar.select]
  · simp [h', Scalar.select]

/-- The search, in natural numbers. -/
def searchN (t : EReal) : ℕ :=
  probeN t (probeN t (probeN t (probeN t (probeN t (probeN t (probeN t (probeN t 0 128) 64) 32) 16) 8) 4) 2) 1

/-- The search, in words. -/
def searchW (t : EReal) : BitVec 32 :=
  probeW t (probeW t (probeW t (probeW t (probeW t (probeW t (probeW t (probeW t 0#32 128#32) 64#32) 32#32) 16#32) 8#32) 4#32) 2#32) 1#32

theorem searchW_eq (t : EReal) : searchW t = BitVec.ofNat 32 (searchN t) := by
  have h1 := probeN_le t 0 128
  have h2 := probeN_le t (probeN t 0 128) 64
  have h3 := probeN_le t (probeN t (probeN t 0 128) 64) 32
  have h4 := probeN_le t (probeN t (probeN t (probeN t 0 128) 64) 32) 16
  have h5 := probeN_le t (probeN t (probeN t (probeN t (probeN t 0 128) 64) 32) 16) 8
  have h6 := probeN_le t (probeN t (probeN t (probeN t (probeN t (probeN t 0 128) 64) 32) 16) 8) 4
  have h7 := probeN_le t (probeN t (probeN t (probeN t (probeN t (probeN t (probeN t 0 128) 64) 32) 16) 8) 4) 2
  unfold searchW searchN
  rw [probeW_eq t 0 128 (by omega), probeW_eq t _ 64 (by omega), probeW_eq t _ 32 (by omega), probeW_eq t _ 16 (by omega),
    probeW_eq t _ 8 (by omega), probeW_eq t _ 4 (by omega), probeW_eq t _ 2 (by omega), probeW_eq t _ 1 (by omega)]

/-- What the search finds: the field whose float is the last at most `t`. -/
theorem searchN_spec {t : EReal} (h0 : 0 ≤ t) (h1 : t < ⊤) : fieldPow (searchN t) ≤ t ∧ t < fieldPow (searchN t + 1) := by
  unfold searchN
  refine probeN_inv (probeN_inv (probeN_inv (probeN_inv (probeN_inv (probeN_inv (probeN_inv (probeN_inv ⟨?_, ?_⟩)))))))
  · simpa [fieldPow] using h0
  · simpa [fieldPow] using h1

theorem fieldPow_succ {k : ℕ} (hk : k < 254) : fieldPow (k + 1) = pw ((k : ℤ) - 126) := by
  unfold fieldPow
  rw [if_neg (by omega), if_pos (by omega)]
  congr 1; push_cast; ring

/-- It is the number of powers reached. -/
theorem searchN_eq {t : EReal} (h0 : 0 ≤ t) (h1 : t < pw 120) : searchN t = count t := by
  obtain ⟨ha, hb⟩ := searchN_spec h0 (h1.trans (EReal.coe_lt_top _))
  have h246 : searchN t ≤ 246 := by
    by_contra hc
    have h := fieldPow_mono (show 247 ≤ searchN t by omega)
    rw [fieldPow_succ (k := 246) (by omega)] at h
    exact absurd (h.trans ha) (not_le.2 (by simpa using h1))
  have e : ((Finset.range 247).filter fun k : ℕ => pw ((k : ℤ) - 126) ≤ t) = Finset.range (searchN t) := by
    ext k
    simp only [Finset.mem_filter, Finset.mem_range]
    constructor
    · rintro ⟨hk, hp⟩
      by_contra hc
      have h := fieldPow_mono (show searchN t + 1 ≤ k + 1 by omega)
      rw [fieldPow_succ (show k < 254 by omega)] at h
      exact absurd (h.trans hp) (not_le.2 hb)
    · intro hk
      refine ⟨by omega, ?_⟩
      rw [← fieldPow_succ (show k < 254 by omega)]
      exact (fieldPow_mono (by omega)).trans ha
  unfold count
  rw [e, Finset.card_range]

theorem ratio_eq_zero (y : Row) : ratio y = 0 ↔ top y = 0 := by
  obtain ⟨r, hr, e⟩ := ofBits_ratio
  unfold ratio
  rw [e]
  constructor
  · intro h
    rcases (mul_eq_zero (M₀ := EReal)).1 h with h | h
    · exact h
    · exact absurd (EReal.coe_eq_zero.1 h) hr.ne'
  · intro h; rw [h, zero_mul]

theorem ratio_nonneg (y : Row) : 0 ≤ ratio y := by
  obtain ⟨r, hr, e⟩ := ofBits_ratio
  unfold ratio
  rw [e]
  exact mul_nonneg (top_nonneg y) (EReal.coe_nonneg.2 hr.le)

/-- The field in words, 255 from `2 ^ 120` on. -/
def biasedW (t : EReal) : BitVec 32 := Scalar.select (Ideal.cmp .olt t (pw 120)) (searchW t) 255#32

/-- The exponent as the kernel selects it. -/
theorem expo_search (y : Row) :
    Scalar.select (IntOp.ori (Ideal.cmp .oeq (ratio y) 0) (IntOp.cmpi .eq (biasedW (ratio y)) 255#32)) 0#32
      (biasedW (ratio y) - 126#32) = BitVec.ofInt 32 (expo y) := by
  by_cases h2 : pw 120 ≤ ratio y
  · have hb : biasedW (ratio y) = 255#32 := by
      unfold biasedW Ideal.cmp; simp [not_lt.2 h2, Scalar.select]
    rw [hb]
    unfold expo Ideal.cmp
    rw [if_pos (Or.inr h2)]
    generalize ratio y = t
    by_cases h1 : t = 0 <;> simp [h1, Scalar.select, IntOp.ori, IntOp.cmpi]
  · have h2' := not_le.1 h2
    have hc := count_le_of_lt h2'
    have hb : biasedW (ratio y) = BitVec.ofNat 32 (count (ratio y)) := by
      unfold biasedW Ideal.cmp
      rw [searchW_eq, searchN_eq (ratio_nonneg y) h2']
      simp [h2', Scalar.select]
    have hne : IntOp.cmpi .eq (BitVec.ofNat 32 (count (ratio y))) 255#32 = 0#1 := by
      have : BitVec.ofNat 32 (count (ratio y)) ≠ 255#32 := by
        intro h
        have := congrArg BitVec.toNat h
        simp at this
        omega
      show BitVec.ofBool (BitVec.ofNat 32 (count (ratio y)) == 255#32) = 0#1
      rw [beq_eq_false_iff_ne.2 this]; rfl
    rw [hb, hne]
    unfold expo Ideal.cmp
    by_cases h1 : top y = 0
    · simp [h1, (ratio_eq_zero y).2 h1, Scalar.select, IntOp.ori]
    · have h1' : ratio y ≠ 0 := fun h => h1 ((ratio_eq_zero y).1 h)
      rw [if_neg (by simp [h1, h2]), ← ofInt_sub, BitVec.ofInt_natCast]
      simp [h1', Scalar.select, IntOp.ori]

/-- The float made from a small exponent. -/
theorem pow2_word (n : ℤ) (h1 : -126 ≤ n) (h2 : n ≤ 126) :
    Ideal.ofBits .f32 (IntOp.shli .vector (BitVec.ofInt 32 n + 127#32) 23#32) = pw n := by
  have e : BitVec.ofInt 32 n + 127#32 = BitVec.ofNat 32 (n + 127).toNat := by
    rw [show (127#32 : BitVec 32) = BitVec.ofInt 32 127 by decide, ofInt_add, ← BitVec.ofInt_natCast, Int.toNat_of_nonneg (by omega)]
  rw [e, shli_field, ofBits_field _ (by omega)]
  unfold fieldPow
  rw [if_neg (by omega), if_pos (by omega), Int.toNat_of_nonneg (by omega)]
  congr 1; ring

end Cert.Spec

end
-- ==== Proof.Elementwise.lean ====
/-
  The elementwise operations at one element, in extended reals.
-/
module

public import Idealize.ShloMosaic.PureOps.Ideal.Laws

@[expose] public section

noncomputable section

namespace Cert.Spec

open Idealize.ShloMosaic

variable {s : Shape} {φ φ' : FTy} {w : ℕ}

theorem at_addf (a b : FVec Ideal s φ) (i : s.Idx) : addf a b i = (a i : EReal) + b i := rfl
theorem at_subf (a b : FVec Ideal s φ) (i : s.Idx) : subf a b i = (a i : EReal) - b i := rfl
theorem at_mulf (a b : FVec Ideal s φ) (i : s.Idx) : mulf a b i = (a i : EReal) * b i := rfl
theorem at_maximumf (a b : FVec Ideal s φ) (i : s.Idx) : maximumf a b i = max (a i : EReal) (b i) := rfl
theorem at_minimumf (a b : FVec Ideal s φ) (i : s.Idx) : minimumf a b i = min (a i : EReal) (b i) := rfl
theorem at_absf (a : FVec Ideal s φ) (i : s.Idx) : absf a i = max (a i : EReal) (-(a i : EReal)) := rfl
theorem at_hostAbsf (a : FVec Ideal s φ) (i : s.Idx) : Host.absf a i = max (a i : EReal) (-(a i : EReal)) := rfl
theorem at_rsqrt (a : FVec Ideal s φ) (i : s.Idx) : rsqrt a i = Ideal.rsqrt (a i) := rfl
theorem at_hostRsqrt (a : FVec Ideal s φ) (i : s.Idx) : Host.rsqrt a i = Ideal.rsqrt (a i) := rfl
theorem at_hostDivf (a b : FVec Ideal s φ) (i : s.Idx) : Host.divf a b i = Ideal.div (a i) (b i) := rfl
theorem at_hostPowf (a b : FVec Ideal s φ) (i : s.Idx) : Host.powf a b i = Ideal.pow (a i) (b i) := rfl
theorem at_extf (a : FVec Ideal s φ) (h : φ.bits < φ'.bits) (i : s.Idx) : extf φ' a h i = (a i : EReal) := rfl
theorem at_truncf (a : FVec Ideal s φ) (h : φ'.bits < φ.bits) (i : s.Idx) : truncf φ' a h i = (a i : EReal) := rfl
theorem at_sitofp (a : IVec s w) (i : s.Idx) : sitofp (F := Ideal) φ a i = (((a i).toInt : ℝ) : EReal) := rfl
theorem at_constant (b : BitVec φ.bits) (i : s.Idx) : constant (F := Ideal) s φ b i = Ideal.ofBits φ b := rfl
theorem at_constantI (b : BitVec w) (i : s.Idx) : constantI s w b i = b := rfl
theorem at_select {α : Type} (c : IVec s 1) (a b : s.Idx → α) (i : s.Idx) : select c a b i = Scalar.select (c i) (a i) (b i) := rfl
theorem at_cmpf (p : CmpFPredicate) (a b : FVec Ideal s φ) (i : s.Idx) : cmpf p a b i = Ideal.cmp p (a i) (b i) := rfl
theorem at_cmpi (p : CmpIPredicate) (a b : IVec s w) (i : s.Idx) : cmpi p a b i = IntOp.cmpi p (a i) (b i) := rfl
theorem at_ori (a b : IVec s w) (i : s.Idx) : ori a b i = IntOp.ori (a i) (b i) := rfl
theorem at_addi (a b : IVec s w) (i : s.Idx) : addi a b i = a i + b i := rfl
theorem at_subi (a b : IVec s w) (i : s.Idx) : subi a b i = a i - b i := rfl
theorem at_negi (a : IVec s w) (i : s.Idx) : negi a i = -(a i) := rfl
theorem at_broadcast {α : Type} (a : α) (i : s.Idx) : broadcast s a i = a := rfl
theorem at_extui {w' : ℕ} (a : IVec s w) (h : w < w') (i : s.Idx) : extui w' a h i = (a i).setWidth w' := rfl
theorem at_trunci {w' : ℕ} (a : IVec s w) (h : w' < w) (i : s.Idx) : trunci w' a h i = (a i).setWidth w' := rfl
theorem at_scalar_ofBits (b : BitVec φ.bits) : Scalar.ofBits (F := Ideal) φ b = Ideal.ofBits φ b := rfl
theorem at_splat {α : Type} {u : Shape} (dims : Fin u.rank → Fin s.rank) (h : u.BroadcastsInDim s dims) (a : α) (i : s.Idx) :
    broadcastInDim s dims h (fun _ => a) i = a := rfl
theorem at_bitcast (a : IVec s 32) (i : s.Idx) : bitcastToFloat (F := Ideal) .f32 a i = Ideal.ofBits .f32 (a i) := rfl
theorem at_fptosi (a : FVec Ideal s φ) (i : s.Idx) : fptosi w a i = Ideal.fptosi w (a i) := rfl
theorem at_shli (a b : IVec s w) (i : s.Idx) : shli a b i = IntOp.shli .vector (a i) (b i) := rfl
theorem at_hostShli (a b : IVec s w) (i : s.Idx) : Host.shli a b i = IntOp.shli .host (a i) (b i) := rfl

end Cert.Spec

end
-- ==== Proof.IdealRow.lean ====
/-
  What the stages of the kernel's body compute of one row of its block, in extended reals.
-/
module

public import proofs.«01_k».proof.Proof.IdealRows
public import proofs.«01_k».proof.Proof.Search
public import proofs.«01_k».proof.Proof.Elementwise

@[expose] public section

set_option maxRecDepth 16384

noncomputable section

namespace Cert.KernelIdeal.Value

open Idealize.ShloMosaic
open Cert.KernelIdeal Cert.KernelIdeal.Gen Cert.Spec
open scoped BigOperators

local notation "𝔼" => Idealize.ShloMosaic.Ideal

/-- Lane `l` of row `r` of a strip. -/
def at2 (r : Fin 32) (l : Fin 128) : S32x128.Idx := fun a => match a with | ⟨0, _⟩ => r | ⟨1, _⟩ => l

theorem at2_eta (y : S32x128.Idx) : at2 (y 0) (y 1) = y := funext fun a => match a with | ⟨0, _⟩ => rfl | ⟨1, _⟩ => rfl

/-- Row `r` of a column. -/
def col1 (r : Fin 32) : S32x1.Idx := fun a => match a with | ⟨0, _⟩ => r | ⟨1, _⟩ => (⟨0, Nat.one_pos⟩ : Fin 1)

/-- Entry `r` of a vector of 32. -/
def ent (r : Fin 32) : S32.Idx := fun a => match a with | ⟨0, _⟩ => r

/-- The strip that holds column `j`. -/
def stripNo (j : Fin 5120) : ℕ := j.val / 128

/-- The lane of column `j`. -/
def laneNo (j : Fin 5120) : Fin 128 := ⟨j.val % 128, Nat.mod_lt _ (by norm_num)⟩

/-- Row `r` of the strips `f`, as one row of 5120 columns. -/
def rowOf {α : Type} (f : ℕ → S32x128.Idx → α) (r : Fin 32) (j : Fin 5120) : α := f (stripNo j) (at2 r (laneNo j))

/-- The strips of a single row, as that row. -/
def rowOf1 {α : Type} (f : ℕ → S1x128.Idx → α) (j : Fin 5120) : α := f (stripNo j) (lanes (laneNo j))

theorem stripNo_lt (j : Fin 5120) : stripNo j < 40 := by unfold stripNo; omega

/-- Column `l` of strip `k`. -/
def colNo (k : Fin 40) (l : Fin 128) : Fin 5120 := ⟨128 * k.val + l.val, by omega⟩

theorem stripNo_colNo (k : Fin 40) (l : Fin 128) : stripNo (colNo k l) = k.val := by
  show (128 * k.val + l.val) / 128 = k.val; omega

theorem laneNo_colNo (k : Fin 40) (l : Fin 128) : laneNo (colNo k l) = l :=
  Fin.ext (show (128 * k.val + l.val) % 128 = l.val by omega)

theorem colNo_eta (j : Fin 5120) : colNo ⟨stripNo j, stripNo_lt j⟩ (laneNo j) = j :=
  Fin.ext (show 128 * (j.val / 128) + j.val % 128 = j.val by omega)

/-- The columns, strip by strip. -/
def colEquiv : Fin 40 × Fin 128 ≃ Fin 5120 where
  toFun p := colNo p.1 p.2
  invFun j := (⟨stripNo j, stripNo_lt j⟩, laneNo j)
  left_inv p := Prod.ext (Fin.ext (stripNo_colNo p.1 p.2)) (laneNo_colNo p.1 p.2)
  right_inv j := colNo_eta j

/-- Lane sums of strip sums are the sum over the columns. -/
theorem sum_cols (g : ℕ → Fin 128 → EReal) :
    ∑ l : Fin 128, ∑ k ∈ Finset.range 40, g k l = ∑ j : Fin 5120, g (stripNo j) (laneNo j) := by
  rw [Finset.sum_comm, Finset.sum_range, ← Fintype.sum_prod_type' (fun (k : Fin 40) (l : Fin 128) => g k.val l)]
  refine Fintype.sum_equiv colEquiv _ _ fun p => ?_
  show _ = g (stripNo (colNo p.1 p.2)) (laneNo (colNo p.1 p.2))
  rw [stripNo_colNo, laneNo_colNo]

theorem zeros_apply (y : S32x128.Idx) : zeros (F := 𝔼) y = 0 := Ideal.ofBits_zero_f32

theorem acc_apply (f : ℕ → FVec 𝔼 S32x128 .f32) (n : ℕ) (y : S32x128.Idx) : acc f n y = ∑ k ∈ Finset.range n, f k y := by
  induction n with
  | zero => rw [Finset.range_zero, Finset.sum_empty]; exact zeros_apply y
  | succ n ih =>
    rw [Finset.sum_range_succ, ← ih]
    rfl

theorem lift_lane (r : Fin 32) (l : Fin 128) : (reduces_S32x128_S32 : S32x128.Reduces [1] S32).lift (ent r) l = at2 r l :=
  funext fun a => match a with | ⟨0, _⟩ => rfl | ⟨1, _⟩ => rfl

theorem castCol (v : S32.Idx → EReal) (r : Fin 32) : shapeCast S32x1 v shapeCasts_S32_S32x1 (col1 r) = v (ent r) := by
  refine shapeCast_apply v _ (col1 r) (ent r) ?_
  rw [Shape.rowMajor_val_one, Shape.rowMajor_val_two]
  show r.val = r.val * 1 + 0
  omega

theorem spread_col (m : S32x1.Idx → EReal) (r : Fin 32) (l : Fin 128) :
    broadcastTo S32x128 m broadcasts_S32x1_S32x128 (at2 r l) = m (col1 r) :=
  broadcastTo_apply m _ (at2 r l) (col1 r) fun a => by fin_cases a <;> rfl

theorem spread_row (b : S1x128.Idx → EReal) (r : Fin 32) (l : Fin 128) :
    broadcastTo S32x128 b broadcasts_S1x128_S32x128 (at2 r l) = b (lanes l) :=
  broadcastTo_apply b _ (at2 r l) (lanes l) fun a => by fin_cases a <;> rfl

theorem inv_d : (Named.named (F := 𝔼) κ "inv_d" (φ := .f32) 0x394CCCCD#32 : EReal) = ((1 / 5120 : ℝ) : EReal) :=
  IdealRules.named_const.ideal_named_scalar _ _ _ _ rfl

theorem rowMean_apply (t : FVec 𝔼 S32x128 .f32) (r : Fin 32) :
    rowMean t (col1 r) = (∑ l : Fin 128, t (at2 r l)) * ((1 / 5120 : ℝ) : EReal) := by
  unfold rowMean
  rw [at_mulf, castCol, at_broadcast, inv_d]
  refine congrArg (fun s : EReal => s * ((1 / 5120 : ℝ) : EReal)) ?_
  refine (Ideal.multiReduction_add_single t _ _ _ _ _).trans (Finset.sum_congr rfl fun (l : Fin 128) _ => ?_)
  exact congrArg t (lift_lane r l)

/-- The row mean of summed strips is the mean of the row. -/
theorem rowMean_acc (f : ℕ → FVec 𝔼 S32x128 .f32) (r : Fin 32) : rowMean (acc f 40) (col1 r) = mean (rowOf f r) := by
  rw [rowMean_apply]
  unfold mean
  refine congrArg (fun s : EReal => s * ((1 / 5120 : ℝ) : EReal)) ?_
  simp only [acc_apply]
  exact sum_cols fun k l => f k (at2 r l)

theorem centre_apply (v : FVec 𝔼 S32x128 .f32) (m : FVec 𝔼 S32x1 .f32) (r : Fin 32) (l : Fin 128) :
    centre v m (at2 r l) = (v (at2 r l) : EReal) - m (col1 r) := by
  unfold centre
  rw [at_subf, spread_col]

theorem rowOf_cS (h : ℕ → FVec 𝔼 S32x128 .f32) (r : Fin 32) : rowOf (cS h) r = cent (rowOf h r) := by
  funext j
  unfold rowOf cS cent meanOf
  rw [centre_apply, rowMean_acc]
  rfl

theorem rS_apply (h : ℕ → FVec 𝔼 S32x128 .f32) (r : Fin 32) : rS h (col1 r) = rstd (rowOf h r) := by
  have e : rowOf (fun k => mulf (cS h k) (cS h k)) r = fun j => cent (rowOf h r) j * cent (rowOf h r) j := by
    funext j
    rw [← rowOf_cS]
    exact at_mulf _ _ _
  unfold rS rstdOf rstd
  rw [at_rsqrt, at_addf, rowMean_acc, e, at_broadcast, at_scalar_ofBits]

theorem rowOf_yS (h : ℕ → FVec 𝔼 S32x128 .f32) (G B : ℕ → FVec 𝔼 S1x128 .f32) (r : Fin 32) :
    rowOf (yS h G B) r = Spec.norm (rowOf h r) (rowOf1 G) (rowOf1 B) := by
  funext j
  have e := congrFun (rowOf_cS h r) j
  unfold rowOf at e ⊢
  unfold yS normed Spec.norm
  rw [at_addf, at_mulf, at_mulf, e, spread_col, rS_apply, spread_row, spread_row, shapeCast_self, shapeCast_self]
  rfl

theorem accTop_le (f : ℕ → FVec 𝔼 S32x128 .f32) (n : ℕ) (y : S32x128.Idx) (c : EReal) :
    (accTop f n y : EReal) ≤ c ↔ 0 ≤ c ∧ ∀ k < n, max (f k y : EReal) (-(f k y : EReal)) ≤ c := by
  induction n with
  | zero =>
    rw [show (accTop f 0 y : EReal) = 0 from zeros_apply y]
    exact ⟨fun h => ⟨h, fun k hk => absurd hk (Nat.not_lt_zero k)⟩, fun h => h.1⟩
  | succ n ih =>
    rw [show (accTop f (n + 1) y : EReal) = max (accTop f n y : EReal) (max (f n y : EReal) (-(f n y : EReal))) from rfl,
      max_le_iff (a := (accTop f n y : EReal)), ih]
    constructor
    · rintro ⟨⟨h0, h1⟩, h2⟩
      refine ⟨h0, fun k hk => ?_⟩
      rcases Nat.lt_succ_iff_lt_or_eq.1 hk with hk | rfl
      · exact h1 k hk
      · exact h2
    · rintro ⟨h0, h1⟩
      exact ⟨⟨h0, fun k hk => h1 k (by omega)⟩, h1 n (by omega)⟩

theorem abs_nonneg' (x : EReal) : 0 ≤ max x (-x) := by
  rcases le_total 0 x with h | h
  · exact le_max_of_le_left h
  · exact le_max_of_le_right (EReal.neg_nonneg.2 h)

/-- The largest value of a row of lanes. -/
theorem laneTop (f : ℕ → FVec 𝔼 S32x128 .f32) (r : Fin 32) :
    Finset.univ.fold max (⊥ : EReal) (fun l : Fin 128 => (accTop f 40 (at2 r l) : EReal)) = top (rowOf f r) := by
  refine eq_of_forall_ge_iff fun c => ?_
  unfold top
  rw [Finset.fold_max_le, Finset.sup_le_iff]
  constructor
  · rintro ⟨-, h⟩ j -
    exact ((accTop_le f 40 _ c).1 (h (laneNo j) (Finset.mem_univ _))).2 (stripNo j) (stripNo_lt j)
  · intro h
    refine ⟨bot_le, fun l _ => (accTop_le f 40 _ c).2 ⟨(abs_nonneg' _).trans (h (colNo 0 l) (Finset.mem_univ _)), fun k hk => ?_⟩⟩
    have := h (colNo ⟨k, hk⟩ l) (Finset.mem_univ _)
    unfold rowOf at this
    rwa [stripNo_colNo, laneNo_colNo] at this

theorem scaled_apply (f : ℕ → FVec 𝔼 S32x128 .f32) (r : Fin 32) (l : Fin 128) :
    scaled (accTop f 40) (at2 r l) = ratio (rowOf f r) := by
  unfold scaled ratio
  rw [at_mulf, spread_col, shapeCast_self, castCol, at_broadcast, at_scalar_ofBits]
  refine congrArg (fun s : EReal => s * Ideal.ofBits .f32 0x3B124925#32) ?_
  rw [← laneTop]
  refine (Ideal.multiReduction_maximumf_single (accTop f 40) _ _ _ _ _).trans ?_
  refine (congrArg (fun b : EReal => Finset.univ.fold max b _) ofBits_bot).trans ?_
  exact congrArg (fun g : Fin 128 → EReal => Finset.univ.fold max (⊥ : EReal) g) (funext fun l => congrArg (accTop f 40) (lift_lane r l))

theorem probe_apply (t : FVec 𝔼 S32x128 .f32) (b : IVec S32x128 32) (s : BitVec 32) (y : S32x128.Idx) :
    probe t b s y = probeW (t y) (b y) s := rfl

theorem biased_apply (t : FVec 𝔼 S32x128 .f32) (y : S32x128.Idx) : biased t y = biasedW (t y) := by
  unfold biased biasedW field searchW
  rw [at_select, at_cmpf, at_broadcast, at_broadcast, at_scalar_ofBits, ofBits_top_pow]
  simp only [probe_apply, at_broadcast]

theorem eS_apply (f : ℕ → FVec 𝔼 S32x128 .f32) (r : Fin 32) (l : Fin 128) :
    eS f (at2 r l) = BitVec.ofInt 32 (Spec.expo (rowOf f r)) := by
  unfold eS Value.expo
  rw [at_select, at_ori, at_cmpf, at_cmpi, at_subi, biased_apply, scaled_apply, at_broadcast, at_broadcast, at_broadcast,
    at_broadcast, at_scalar_ofBits, Ideal.ofBits_zero_f32]
  exact expo_search (rowOf f r)

theorem pow2_apply (e : IVec S32x128 32) (y : S32x128.Idx) (n : ℤ) (h : e y = BitVec.ofInt 32 n) (h1 : -126 ≤ n) (h2 : n ≤ 126) :
    pow2 (F := 𝔼) e y = pw n := by
  unfold pow2 powField
  rw [at_bitcast, at_shli, at_addi, h, at_broadcast, at_broadcast, pow2_word n h1 h2]

theorem scale_apply (f : ℕ → FVec 𝔼 S32x128 .f32) (r : Fin 32) (l : Fin 128) :
    pow2 (F := 𝔼) (eS f) (at2 r l) = pw (Spec.expo (rowOf f r)) :=
  have h1 := expo_ge (rowOf f r)
  have h2 := expo_le (rowOf f r)
  pow2_apply _ _ _ (eS_apply f r l) (by omega) (by omega)

theorem codes_apply (f : ℕ → FVec 𝔼 S32x128 .f32) (r : Fin 32) (j : Fin 5120) :
    codesOf (F := 𝔼) (f (stripNo j)) (eS f) (at2 r (laneNo j)) = code (rowOf f r) j := by
  have h1 := expo_ge (rowOf f r)
  have h2 := expo_le (rowOf f r)
  have e : subi (broadcast S32x128 0#32) (eS f) (at2 r (laneNo j)) = BitVec.ofInt 32 (-Spec.expo (rowOf f r)) := by
    rw [at_subi, eS_apply, at_broadcast, BitVec.ofInt_neg, BitVec.zero_sub]
  unfold codesOf code
  rw [at_truncf, at_minimumf, at_maximumf, at_mulf, pow2_apply _ _ _ e (by omega) (by omega), at_broadcast, at_broadcast,
    at_scalar_ofBits, at_scalar_ofBits]
  rfl

theorem keep_apply (R : ℕ → IVec S32x128 32) (k : ℕ) (y : S32x128.Idx) : keep R k y = kept (R k y) := by
  unfold keep kept
  rw [at_cmpi, shapeCast_self, at_broadcast]

theorem rowOf_hval (X A : ℕ → FVec 𝔼 S32x128 .bf16) (B : ℕ → FVec 𝔼 S1x128 .f32) (R : ℕ → IVec S32x128 32) (r : Fin 32)
    (j : Fin 5120) : rowOf (hval X A B R) r j = resid (rowOf X r j) (rowOf A r j) (rowOf1 B j) (rowOf R r j) := by
  unfold rowOf rowOf1 hval branch resid
  rw [at_truncf, at_addf, at_extf, at_select, keep_apply, at_mulf, at_addf, at_extf, spread_row, at_broadcast, at_scalar_ofBits,
    zeros_apply, shapeCast_self, shapeCast_self, shapeCast_self]

end Cert.KernelIdeal.Value

end
-- ==== Proof.IdealInputs.lean ====
/-
  The blocks of the kernel's inputs as parts of its arguments: row `r` of the blocks at point `t` is row `32 t + r` of the
  arguments' 3 times 384 rows.
-/
module

public import proofs.«01_k».proof.Proof.IdealRow
public import proofs.«01_k».proof.Proof.Gen.KernelIdeal.Frame
public import Idealize.ShloMosaic.Lib.StableHlo.Run
public import Idealize.ShloMosaic.Lib.Pipeline.ValueKit

@[expose] public section

set_option maxRecDepth 16384

noncomputable section

namespace Cert.KernelIdeal.Run

open Idealize.ShloMosaic Idealize.ShloMosaic.TcCoe Idealize.ShloMosaic.StableHlo
open Cert.KernelIdeal Cert.KernelIdeal.Gen Cert.KernelIdeal.Value Cert.Spec

local notation "𝔼" => Idealize.ShloMosaic.Ideal

/-- Column `j` of row `g` of the 1152 rows. -/
def flatIdx (g : Fin 1152) (j : Fin 5120) : S1152x5120.Idx := fun a => match a with | ⟨0, _⟩ => g | ⟨1, _⟩ => j

/-- The same place of an argument of 3 times 384 rows. -/
def argIdx (g : Fin 1152) (j : Fin 5120) : S3x384x5120.Idx := fun a => match a with
  | ⟨0, _⟩ => (⟨g.val / 384, by omega⟩ : Fin 3)
  | ⟨1, _⟩ => (⟨g.val % 384, Nat.mod_lt _ (by norm_num)⟩ : Fin 384)
  | ⟨2, _⟩ => j

/-- Column `j` of a row of columns. -/
def rowIdx (j : Fin 5120) : S1x5120.Idx := fun a => match a with | ⟨0, _⟩ => (0 : Fin 1) | ⟨1, _⟩ => j

/-- Column `j` of a vector of columns. -/
def vecIdx (j : Fin 5120) : S5120.Idx := fun a => match a with | ⟨0, _⟩ => j

/-- Column `j` of row `r` of a block. -/
def blkIdx (r : Fin 32) (j : Fin 5120) : S32x5120.Idx := fun a => match a with | ⟨0, _⟩ => r | ⟨1, _⟩ => j

/-- The row of the arguments that is row `r` of the blocks at point `t`. -/
def rowNo (t : Fin cfg0.N) (r : Fin 32) : Fin 1152 :=
  ⟨32 * t.val + r.val, by have : t.val < 36 := t.isLt; omega⟩

theorem cast_rows {α : Type} (v : S3x384x5120.Idx → α) (g : Fin 1152) (j : Fin 5120) :
    shapeCast S1152x5120 v shapeCasts_S3x384x5120_S1152x5120 (flatIdx g j) = v (argIdx g j) := by
  refine shapeCast_apply v _ (flatIdx g j) (argIdx g j) ?_
  rw [Shape.rowMajor_val_three, Shape.rowMajor_val_two]
  show (g.val / 384 * 384 + g.val % 384) * 5120 + j.val = g.val * 5120 + j.val
  omega

theorem cast_row {α : Type} (v : S5120.Idx → α) (j : Fin 5120) :
    shapeCast S1x5120 v shapeCasts_S5120_S1x5120 (rowIdx j) = v (vecIdx j) := by
  refine shapeCast_apply v _ (rowIdx j) (vecIdx j) ?_
  rw [Shape.rowMajor_val_one, Shape.rowMajor_val_two]
  show j.val = 0 * 5120 + j.val
  omega

theorem rowOf_strips {α : Type} (x : S32x5120.Idx → α) (r : Fin 32) (j : Fin 5120) :
    rowOf (stripsOf x) r j = x (blkIdx r j) := by
  refine congrArg x (funext fun a => ?_)
  fin_cases a
  · exact Fin.ext (strip_idx_zero _ _)
  · refine Fin.ext ((strip_idx_one _ _).trans ?_)
    show 128 * (j.val / 128 % 40) + j.val % 128 = j.val
    omega

theorem rowOf1_strips {α : Type} (x : S1x5120.Idx → α) (j : Fin 5120) : rowOf1 (rowStripsOf x) j = x (rowIdx j) := by
  refine congrArg x (funext fun a => ?_)
  fin_cases a
  · exact Fin.ext (by have := ((rowStrip (stripNo j)).idx (lanes (laneNo j)) 0).isLt; exact Nat.lt_one_iff.1 this)
  · refine Fin.ext ((LoadRect.idx_apply _ _ _).trans ?_)
    show 128 * (j.val / 128 % 40) + 1 * (j.val % 128) = j.val
    omega

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![0, 0] := by decide +kernel
theorem index_3 : ∀ t : Fin cfg0.N, win0_3.index t = ![t.val, 0] := by decide +kernel
theorem index_4 : ∀ t : Fin cfg0.N, win0_4.index t = ![0, 0] := by decide +kernel
theorem index_5 : ∀ t : Fin cfg0.N, win0_5.index t = ![0, 0] := by decide +kernel

theorem place_0 (t : Fin cfg0.N) (r : Fin 32) (j : Fin 5120) :
    ((win0_0.blk t).view.emb (blkIdx r j) : S1152x5120.Idx) = flatIdx (rowNo t r) j := by
  blk_ext [index_0, blkIdx, flatIdx, rowNo]

theorem place_1 (t : Fin cfg0.N) (r : Fin 32) (j : Fin 5120) :
    ((win0_1.blk t).view.emb (blkIdx r j) : S1152x5120.Idx) = flatIdx (rowNo t r) j := by
  blk_ext [index_1, blkIdx, flatIdx, rowNo]

theorem place_3 (t : Fin cfg0.N) (r : Fin 32) (j : Fin 5120) :
    ((win0_3.blk t).view.emb (blkIdx r j) : S1152x5120.Idx) = flatIdx (rowNo t r) j := by
  blk_ext [index_3, blkIdx, flatIdx, rowNo]

theorem place_2 (t : Fin cfg0.N) (j : Fin 5120) :
    ((win0_2.blk t).view.emb (rowIdx j) : S1x5120.Idx) = rowIdx j := by
  blk_ext [index_2, rowIdx]

theorem place_4 (t : Fin cfg0.N) (j : Fin 5120) :
    ((win0_4.blk t).view.emb (rowIdx j) : S1x5120.Idx) = rowIdx j := by
  blk_ext [index_4, rowIdx]

theorem place_5 (t : Fin cfg0.N) (j : Fin 5120) :
    ((win0_5.blk t).view.emb (rowIdx j) : S1x5120.Idx) = rowIdx j := by
  blk_ext [index_5, rowIdx]

variable (m : (ℓ : Loc nD τ sig) → Buf (Elt 𝔼) ℓ)

theorem V_v0 (c : Dev nD) : V m c main_v0 = shapeCast S1152x5120 (m ((c : Thread nD τ).loc main_arg0)) shapeCasts_S3x384x5120_S1152x5120 := by
  unfold V
  simp only [hostOps0]
  after_results
  rfl

theorem V_v1 (c : Dev nD) : V m c main_v1 = shapeCast S1152x5120 (m ((c : Thread nD τ).loc main_arg1)) shapeCasts_S3x384x5120_S1152x5120 := by
  unfold V
  simp only [hostOps0]
  after_results
  rfl

theorem V_v3 (c : Dev nD) : V m c main_v3 = shapeCast S1152x5120 (m ((c : Thread nD τ).loc main_arg3)) shapeCasts_S3x384x5120_S1152x5120 := by
  unfold V
  simp only [hostOps0]
  after_results
  rfl

theorem V_v2 (c : Dev nD) : V m c main_v2 = shapeCast S1x5120 (m ((c : Thread nD τ).loc main_arg2)) shapeCasts_S5120_S1x5120 := by
  unfold V
  simp only [hostOps0]
  after_results
  rfl

theorem V_v4 (c : Dev nD) : V m c main_v4 = shapeCast S1x5120 (m ((c : Thread nD τ).loc main_arg4)) shapeCasts_S5120_S1x5120 := by
  unfold V
  simp only [hostOps0]
  after_results
  rfl

theorem V_v5 (c : Dev nD) : V m c main_v5 = shapeCast S1x5120 (m ((c : Thread nD τ).loc main_arg5)) shapeCasts_S5120_S1x5120 := by
  unfold V
  simp only [hostOps0]
  after_results
  rfl

/-- Input 0, row by row. -/
theorem row_0 (c : Dev nD) (t : Fin cfg0.N) (r : Fin 32) (j : Fin 5120) :
    rowOf (stripsOf (iblk m c 0 t)) r j = m ((c : Thread nD τ).loc main_arg0) (argIdx (rowNo t r) j) := by
  refine (rowOf_strips _ r j).trans ?_
  refine (congrArg (V m c main_v0) (place_0 t r j)).trans ?_
  rw [V_v0]
  exact cast_rows _ _ _

/-- Input 1, row by row. -/
theorem row_1 (c : Dev nD) (t : Fin cfg0.N) (r : Fin 32) (j : Fin 5120) :
    rowOf (stripsOf (iblk m c 1 t)) r j = m ((c : Thread nD τ).loc main_arg1) (argIdx (rowNo t r) j) := by
  refine (rowOf_strips _ r j).trans ?_
  refine (congrArg (V m c main_v1) (place_1 t r j)).trans ?_
  rw [V_v1]
  exact cast_rows _ _ _

/-- Input 3, row by row. -/
theorem row_3 (c : Dev nD) (t : Fin cfg0.N) (r : Fin 32) (j : Fin 5120) :
    rowOf (stripsOf (iblk m c 3 t)) r j = m ((c : Thread nD τ).loc main_arg3) (argIdx (rowNo t r) j) := by
  refine (rowOf_strips _ r j).trans ?_
  refine (congrArg (V m c main_v3) (place_3 t r j)).trans ?_
  rw [V_v3]
  exact cast_rows _ _ _

/-- Input 2, column by column. -/
theorem row_2 (c : Dev nD) (t : Fin cfg0.N) (j : Fin 5120) :
    rowOf1 (rowStripsOf (iblk m c 2 t)) j = m ((c : Thread nD τ).loc main_arg2) (vecIdx j) := by
  refine (rowOf1_strips _ j).trans ?_
  refine (congrArg (V m c main_v2) (place_2 t j)).trans ?_
  rw [V_v2]
  exact cast_row _ _

/-- Input 4, column by column. -/
theorem row_4 (c : Dev nD) (t : Fin cfg0.N) (j : Fin 5120) :
    rowOf1 (rowStripsOf (iblk m c 4 t)) j = m ((c : Thread nD τ).loc main_arg4) (vecIdx j) := by
  refine (rowOf1_strips _ j).trans ?_
  refine (congrArg (V m c main_v4) (place_4 t j)).trans ?_
  rw [V_v4]
  exact cast_row _ _

/-- Input 5, column by column. -/
theorem row_5 (c : Dev nD) (t : Fin cfg0.N) (j : Fin 5120) :
    rowOf1 (rowStripsOf (iblk m c 5 t)) j = m ((c : Thread nD τ).loc main_arg5) (vecIdx j) := by
  refine (rowOf1_strips _ j).trans ?_
  refine (congrArg (V m c main_v5) (place_5 t j)).trans ?_
  rw [V_v5]
  exact cast_row _ _

end Cert.KernelIdeal.Run

end
-- ==== Proof.IdealMask.lean ====
/-
  The packed mask of the kernel: the product of the kept bits with the weights is the sum of each byte's kept bits times
  their powers of two.
-/
module

public import proofs.«01_k».proof.Proof.IdealRow
public import Idealize.ShloMosaic.Lib.MatmulPlain
public import Idealize.ShloMosaic.Lib.Pipeline.Value

@[expose] public section

set_option maxRecDepth 16384

noncomputable section

namespace Cert.KernelIdeal.Value

open Idealize.ShloMosaic
open Cert.KernelIdeal Cert.KernelIdeal.Gen Cert.Spec
open scoped BigOperators

local notation "𝔼" => Idealize.ShloMosaic.Ideal

/-- Channel `k` of row `r` of eight strips side by side. -/
def chan (r : Fin 32) (k : Fin 1024) : S32x1024.Idx := fun a => match a with | ⟨0, _⟩ => r | ⟨1, _⟩ => k

/-- Entry `(k, l)` of the weights. -/
def wIdx (k : Fin 1024) (l : Fin 128) : S1024x128.Idx := fun a => match a with | ⟨0, _⟩ => k | ⟨1, _⟩ => l

/-- Lane of channel `k`. -/
def chanLane (k : Fin 1024) : Fin 128 := ⟨k.val % 128, Nat.mod_lt _ (by norm_num)⟩

theorem shift_chan : ∀ k : Fin 1024, IntOp.shrsi .vector (BitVec.ofNat 32 k.val) 3#32 = BitVec.ofNat 32 (k.val / 8) := by
  decide +kernel

theorem weight_chan : ∀ k : Fin 1024,
    (IntOp.shli .vector 1#32 (IntOp.andi (BitVec.ofNat 32 k.val) 7#32)).toInt = (2 : ℤ) ^ (k.val % 8) := by
  decide +kernel

/-- The weights: channel `k` counts `2 ^ (k mod 8)` in byte `k div 8`. -/
theorem weights_apply (k : Fin 1024) (l : Fin 128) :
    (weights (F := 𝔼) (wIdx k l) : EReal) = if k.val / 8 = l.val then (((2 : ℤ) ^ (k.val % 8) : ℤ) : ℝ) else (0 : ℝ) := by
  have e1 : shrsi (iota .tc S1024x128 32 [0] iota_S1024x128_d0_w32) (broadcast S1024x128 3#32) (wIdx k l)
      = IntOp.shrsi .vector (BitVec.ofNat 32 (0 * 1024 + k.val)) 3#32 := rfl
  have e2 : shli (broadcast S1024x128 1#32) (andi (iota .tc S1024x128 32 [0] iota_S1024x128_d0_w32) (broadcast S1024x128 7#32))
      (wIdx k l) = IntOp.shli .vector 1#32 (IntOp.andi (BitVec.ofNat 32 (0 * 1024 + k.val)) 7#32) := rfl
  have e3 : iota .tc S1024x128 32 [1] iota_S1024x128_d1_w32 (wIdx k l) = BitVec.ofNat 32 (0 * 128 + l.val) := rfl
  unfold weights k0_pay28
  dsimp only
  rw [shapeCast_self, at_truncf, at_select, at_cmpi, at_sitofp, e1, e2, e3, zero_mul, zero_mul, zero_add, zero_add, shift_chan,
    weight_chan, at_broadcast, at_scalar_ofBits, Ideal.ofBits_zero_f32]
  have hk : k.val / 8 < 128 := by omega
  have hl : l.val < 128 := l.isLt
  by_cases h : k.val / 8 = l.val
  · rw [if_pos h, h]
    simp [Scalar.select, IntOp.cmpi]
  · rw [if_neg h]
    have : BitVec.ofNat 32 (k.val / 8) ≠ BitVec.ofNat 32 l.val := by
      intro e
      have := congrArg BitVec.toNat e
      simp only [BitVec.toNat_ofNat] at this
      omega
    rw [show IntOp.cmpi .eq (BitVec.ofNat 32 (k.val / 8)) (BitVec.ofNat 32 l.val) = 0#1 by
      show BitVec.ofBool (BitVec.ofNat 32 (k.val / 8) == BitVec.ofNat 32 l.val) = 0#1
      rw [beq_eq_false_iff_ne.2 this]; rfl]
    rfl

theorem bit_apply (R : ℕ → IVec S32x128 32) (j : ℕ) (y : S32x128.Idx) :
    (bit (F := 𝔼) R j y : EReal) = (((kept (R j y)).toNat : ℝ) : EReal) := by
  unfold bit
  rw [at_select, keep_apply, at_broadcast, at_scalar_ofBits, zeros_apply]
  obtain h | h : kept (R j y) = 0#1 ∨ kept (R j y) = 1#1 := by
    generalize kept (R j y) = b
    revert b; decide
  · rw [h]; simp [Scalar.select]
  · rw [h]
    simp [Scalar.select, ofBits_one]

/-- The bits of eight strips side by side. -/
theorem chans_apply (f : ℕ → FVec 𝔼 S32x128 .f32) (g : ℕ) (r : Fin 32) (k : Fin 1024) :
    concatenate S32x1024 1 [⟨S32x128, f (8 * g)⟩, ⟨S32x128, f (8 * g + 1)⟩,
      ⟨S32x128, f (8 * g + 2)⟩, ⟨S32x128, f (8 * g + 3)⟩, ⟨S32x128, f (8 * g + 4)⟩, ⟨S32x128, f (8 * g + 5)⟩,
      ⟨S32x128, f (8 * g + 6)⟩, ⟨S32x128, f (8 * g + 7)⟩]
      concatenates_S32x128_S32x128_S32x128_S32x128_S32x128_S32x128_S32x128_S32x128_S32x1024_d1 (chan r k)
      = f (8 * g + k.val / 128) (at2 r (chanLane k)) := by
  refine concatenate_ofFn_apply (t := S32x1024) (s₁ := S32x128) 1 (fun n : Fin 8 => f (8 * g + n.val)) _ rfl 128 rfl (chan r k)
    ⟨k.val / 128, by omega⟩ rfl (at2 r (chanLane k)) rfl ?_
  intro b hb
  fin_cases b
  · rfl
  · exact absurd rfl hb

/-- A sum of natural numbers read as extended reals. -/
theorem sum_coe {ι : Type} (s : Finset ι) (f : ι → ℕ) :
    ∑ k ∈ s, (((f k : ℕ) : ℝ) : EReal) = (((∑ k ∈ s, f k : ℕ) : ℝ) : EReal) := by
  classical
  induction s using Finset.induction_on with
  | empty => simp
  | insert a s ha ih =>
    rw [Finset.sum_insert ha, Finset.sum_insert ha, ih, Nat.cast_add, EReal.coe_add]

/-- The product of a row of 1024 channels with the weights. -/
theorem product_apply (A : FVec 𝔼 S32x1024 .bf16) (a : Fin 1024 → ℕ) (r : Fin 32) (l : Fin 128)
    (hA : ∀ k, (A (chan r k) : EReal) = ((a k : ℝ) : EReal)) :
    matmul (φ₁ := .bf16) (φ₂ := .bf16) dot_S32x1024_S1024x128_S32x128_1_0_0_1_n_n none A (weights (F := 𝔼)) (constant S32x128 .f32 0x00000000#32) (at2 r l)
      = (((∑ j : Fin 8, a ⟨8 * l.val + j.val, by omega⟩ * 2 ^ j.val : ℕ) : ℝ) : EReal) := by
  have hi : at2 r l = ValueIdx.ix2 r l := funext fun a => match a with | ⟨0, _⟩ => rfl | ⟨1, _⟩ => rfl
  have hc : ∀ k, ValueIdx.ix2 r k = chan r k := fun k => funext fun a => match a with | ⟨0, _⟩ => rfl | ⟨1, _⟩ => rfl
  have hw : ∀ k, ValueIdx.ix2 k l = wIdx k l := fun k => funext fun a => match a with | ⟨0, _⟩ => rfl | ⟨1, _⟩ => rfl
  have hd : dot_S32x1024_S1024x128_S32x128_1_0_0_1_n_n = DotDims.plain 32 1024 128 := rfl
  rw [hd, hi]
  refine (Ideal.matmul_plain_apply (M := 32) (K := 1024) (N := 128) none A (weights (F := 𝔼) : FVec 𝔼 S1024x128 .bf16) _ r l).trans ?_
  simp only [hc, hw]
  have e0 : (constant (F := 𝔼) S32x128 .f32 0x00000000#32 (ValueIdx.ix2 r l) : EReal) = 0 := Ideal.ofBits_zero_f32
  refine (congrArg (fun z : EReal => z + _) e0).trans ((zero_add _).trans ?_)
  have e : ∀ k : Fin 1024, (A (chan r k) : EReal) * (weights (F := 𝔼) (wIdx k l) : EReal)
      = (((a k * (if k.val / 8 = l.val then 2 ^ (k.val % 8) else 0) : ℕ) : ℝ) : EReal) := by
    intro k
    rw [hA, weights_apply]
    by_cases h : k.val / 8 = l.val
    · rw [if_pos h, if_pos h, ← EReal.coe_mul]; push_cast; rfl
    · rw [if_neg h, if_neg h, ← EReal.coe_mul]; push_cast; rfl
  refine (Finset.sum_congr rfl fun k _ => e k).trans ?_
  rw [sum_coe]
  refine congrArg (fun n : ℕ => ((n : ℝ) : EReal)) ?_
  rw [← Fintype.sum_equiv (finProdFinEquiv (m := 128) (n := 8)) (fun p : Fin 128 × Fin 8 =>
    a ⟨8 * p.1.val + p.2.val, by omega⟩ * (if p.1 = l then 2 ^ p.2.val else 0)) _ ?_]
  · rw [Fintype.sum_prod_type, Finset.sum_eq_single l]
    · exact Finset.sum_congr rfl fun j _ => by rw [if_pos rfl]
    · intro b _ hb
      exact Finset.sum_eq_zero fun j _ => by rw [if_neg hb, mul_zero]
    · intro h; exact absurd (Finset.mem_univ _) h
  · rintro ⟨p, q⟩
    have hq : q.val < 8 := q.isLt
    have ev : (finProdFinEquiv (m := 128) (n := 8) (p, q)).val = q.val + 8 * p.val := rfl
    have e1 : (⟨8 * p.val + q.val, by omega⟩ : Fin 1024) = finProdFinEquiv (m := 128) (n := 8) (p, q) :=
      Fin.ext (show 8 * p.val + q.val = _ by rw [ev]; omega)
    have e2 : (finProdFinEquiv (m := 128) (n := 8) (p, q)).val / 8 = p.val := by rw [ev]; omega
    have e3 : (finProdFinEquiv (m := 128) (n := 8) (p, q)).val % 8 = q.val := by rw [ev]; omega
    show a (⟨8 * p.val + q.val, _⟩ : Fin 1024) * _ = _
    rw [e1, e2, e3]
    simp only [Fin.ext_iff]

/-- A small natural number as a word, and its low byte. -/
theorem byte_of (n : ℕ) (h : n < 256) : (Ideal.fptosi 32 (((n : ℕ) : ℝ) : EReal)).setWidth 8 = BitVec.ofNat 8 n := by
  have e : Ideal.fptosi 32 (((n : ℕ) : ℝ) : EReal) = BitVec.ofNat 32 n := by
    unfold Ideal.fptosi
    rw [Ideal.toIntClamped_coe, if_pos (Nat.cast_nonneg n), Int.floor_natCast]
    rw [← BitVec.ofInt_natCast]
    congr 1
    norm_num
    omega
  rw [e]
  apply BitVec.eq_of_toNat_eq
  simp

theorem kept_le (x : BitVec 32) : (kept x).toNat ≤ 1 := by
  have := (kept x).isLt
  omega

/-- The packed mask of group `g`. -/
theorem maskOf_apply (R : ℕ → IVec S32x128 32) (g : ℕ) (r : Fin 32) (l : Fin 128) :
    maskOf (F := 𝔼) R (weights (F := 𝔼)) g (at2 r l) = pack fun j => R (8 * g + (8 * l.val + j.val) / 128)
      (at2 r ⟨(8 * l.val + j.val) % 128, Nat.mod_lt _ (by norm_num)⟩) := by
  unfold maskOf
  rw [at_trunci, at_fptosi]
  refine (congrArg (fun x : EReal => (Ideal.fptosi 32 x).setWidth 8) (product_apply _
    (fun k => (kept (R (8 * g + k.val / 128) (at2 r (chanLane k)))).toNat) r l fun k => ?_)).trans ?_
  · rw [at_truncf]
    refine (chans_apply (fun j => bit R j) g r k).trans ?_
    exact bit_apply _ _ _
  · refine (byte_of _ ?_).trans rfl
    have hb : ∀ j : Fin 8, (kept (R (8 * g + (8 * l.val + j.val) / 128) (at2 r ⟨(8 * l.val + j.val) % 128, Nat.mod_lt _ (by norm_num)⟩))).toNat
        * 2 ^ j.val ≤ 2 ^ j.val := fun j => (Nat.mul_le_mul_right _ (kept_le _)).trans (one_mul _).le
    refine lt_of_le_of_lt (Finset.sum_le_sum fun j _ => hb j) ?_
    decide

end Cert.KernelIdeal.Value

end
-- ==== Proof.IdealValueBody.lean ====
/-
  What the value of the kernel needs of its body at one grid point: from its six input blocks, the bit weights and the
  statistics so far it leaves the blocks of codes, mask and residual sum and the statistics with the block's rows put in.
-/
module

public import proofs.«01_k».proof.Proof.IdealBody
public import proofs.«01_k».proof.Proof.IdealBlock

@[expose] public section

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Value

variable {F : FTy → Type} [FloatOps F] [Named F]

local notation "𝕄" => MT nD τ sig Unit (Elt F) ℕ (UR sig nD τ) ℕ

/-- The body at grid point `i` runs on any whole buffers that hold the six input blocks, the weights `w` and the statistics
    `s`: it leaves the blocks it computes from them, the weights `w'` and the statistics stepped, and in the buffer of
    plane `k` of the statistics `out k` of the stepped statistics and of what the buffer held. -/
def BodyValue (c : Dev nD) (i : grid0.Coords) (w w' : Vec F S1024x128 .bf16)
    (out : Fin 3 → Vec F S3x9x128 .f32 → Vec F S3x384 .f32 → Vec F S3x384 .f32) : Prop :=
  ∀ (arg1 : Memref sig .tc .vmem S32x5120 .bf16) (harg1 : arg1.IsWhole)
    (arg2 : Memref sig .tc .vmem S32x5120 .bf16) (harg2 : arg2.IsWhole)
    (arg3 : Memref sig .tc .vmem S1x5120 .f32) (harg3 : arg3.IsWhole)
    (arg4 : Memref sig .tc .vmem S32x5120 .i32) (harg4 : arg4.IsWhole)
    (arg5 : Memref sig .tc .vmem S1x5120 .f32) (harg5 : arg5.IsWhole)
    (arg6 : Memref sig .tc .vmem S1x5120 .f32) (harg6 : arg6.IsWhole)
    (arg7 : Memref sig .tc .vmem S32x5120 .fp8e4m3) (harg7 : arg7.IsWhole)
    (arg8 : Memref sig .tc .vmem S3x384 .f32) (harg8 : arg8.IsWhole)
    (arg9 : Memref sig .tc .vmem S32x640 .i8) (harg9 : arg9.IsWhole)
    (arg10 : Memref sig .tc .vmem S3x384 .f32) (harg10 : arg10.IsWhole)
    (arg11 : Memref sig .tc .vmem S3x384 .f32) (harg11 : arg11.IsWhole)
    (arg12 : Memref sig .tc .vmem S32x5120 .bf16) (harg12 : arg12.IsWhole)
    (arg13 : Memref sig .tc .vmem S1024x128 .bf16) (harg13 : arg13.IsWhole)
    (arg14 : Memref sig .tc .vmem S32x5120 .f32) (harg14 : arg14.IsWhole)
    (arg15 : Memref sig .tc .vmem S32x5120 .f32) (harg15 : arg15.IsWhole)
    (arg16 : Memref sig .tc .vmem S3x9x128 .f32) (harg16 : arg16.IsWhole)
    (x0 : Vec F S32x5120 .bf16) (x1 : Vec F S32x5120 .bf16) (x2 : Vec F S1x5120 .f32) (x3 : Vec F S32x5120 .i32)
    (x4 : Vec F S1x5120 .f32) (x5 : Vec F S1x5120 .f32) (d7 d9 d10 : Vec F S3x384 .f32) (s : Vec F S3x9x128 .f32)
    (E : Set ℕ) (K : PUnit.{1} → sProp 𝕄),
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare d7
        ∗ (∃ d, owns (c : Thread nD τ) arg9 fullShare d)
        ∗ owns (c : Thread nD τ) arg10 fullShare d9
        ∗ owns (c : Thread nD τ) arg11 fullShare d10
        ∗ (∃ d, owns (c : Thread nD τ) arg12 fullShare d)
        ∗ owns (c : Thread nD τ) arg13 fullShare w
        ∗ (∃ d, owns (c : Thread nD τ) arg14 fullShare d)
        ∗ (∃ d, owns (c : Thread nD τ) arg15 fullShare d)
        ∗ owns (c : Thread nD τ) arg16 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare (codesBlk x0 x1 x2 x3 x4 x5)
        ∗ owns (c : Thread nD τ) arg8 fullShare (out 0 (statStep i (statVals x0 x1 x2 x3 x4 x5) s) d7)
        ∗ owns (c : Thread nD τ) arg9 fullShare (maskBlk x3 w')
        ∗ owns (c : Thread nD τ) arg10 fullShare (out 1 (statStep i (statVals x0 x1 x2 x3 x4 x5) s) d9)
        ∗ owns (c : Thread nD τ) arg11 fullShare (out 2 (statStep i (statVals x0 x1 x2 x3 x4 x5) s) d10)
        ∗ owns (c : Thread nD τ) arg12 fullShare (hBlk x0 x1 x2 x3)
        ∗ owns (c : Thread nD τ) arg13 fullShare w'
        ∗ (∃ d, owns (c : Thread nD τ) arg14 fullShare d)
        ∗ (∃ d, owns (c : Thread nD τ) arg15 fullShare d)
        ∗ owns (c : Thread nD τ) arg16 fullShare (statStep i (statVals x0 x1 x2 x3 x4 x5) s)) -∗ K ⟨⟩))
      ⊢ wp frame (wpE (defs₀ (F := F)) Variants.none c none) E
          (cc0_dropout_add_ln_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K

end Cert.KernelIdeal.Frame

end
-- ==== Proof.IdealValueFirst.lean ====
/- The first point: the bit weights are filled in, nothing is copied out. -/
module

public import proofs.«01_k».proof.Proof.IdealValueBody

@[expose] public section

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Value

variable {F : FTy → Type} [FloatOps F] [Named F]

local notation "𝕄" => MT nD τ sig Unit (Elt F) ℕ (UR sig nD τ) ℕ

set_option maxHeartbeats 4400000 in
/-- The first point: the bit weights are filled in, nothing is copied out. -/
theorem bodyValue_first (c : Dev nD) (i : grid0.Coords) (h0 : isFirst i) (h2 : ¬ isLast i) (w : Vec F S1024x128 .bf16) :
    BodyValue (F := F) c i w weights fun _ _ d => d := by

  intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    x0 x1 x2 x3 x4 x5 d7 d9 d10 s E K
  simp only [cc0_dropout_add_ln_fp8_eq_skeleton]; unfold cc0_dropout_add_ln_fp8_skel
  simp only [k0_part78_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%f7, %hf7, H7⟩, ⟨%d8, %f8, -, H8⟩, ⟨%f9, %hf9, H9⟩, ⟨%f10, %hf10, H10⟩,
    ⟨%d11, %f11, -, H11⟩, ⟨%fs0, %hs0, HS0⟩, ⟨%ds1, %fs1, -, HS1⟩, ⟨%ds2, %fs2, -, HS2⟩, ⟨%fs3, %hs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact h0 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    exact read_codes x0 x1 x2 x3 x4 x5 _ _ _ _ _ _ (readAt_strip arg1 harg1 x0) (readAt_strip arg2 harg2 x1) (readAt_rowStrip arg3 harg3 x2) (readAt_strip arg4 harg4 x3) (readAt_rowStrip arg5 harg5 x4) (readAt_rowStrip arg6 harg6 x5) arg14.view arg15.view arg7.view f6
  isplitl [H7]
  · iexists _; isplitr; swap; · iexact H7
    ipureintro
    exact hf7
  isplitl [H8]
  · iexists _; isplitr; swap; · iexact H8
    ipureintro
    exact read_mask x3 _ (readAt_strip arg4 harg4 x3) arg9.view f8 _ _ (readCov_weights arg13.view _ _)
  isplitl [H9]
  · iexists _; isplitr; swap; · iexact H9
    ipureintro
    exact hf9
  isplitl [H10]
  · iexists _; isplitr; swap; · iexact H10
    ipureintro
    exact hf10
  isplitl [H11]
  · iexists _; isplitr; swap; · iexact H11
    ipureintro
    exact read_h x0 x1 x2 x3 _ _ _ _ (readAt_strip arg1 harg1 x0) (readAt_strip arg2 harg2 x1) (readAt_rowStrip arg3 harg3 x2) (readAt_strip arg4 harg4 x3) arg12.view f11
  isplitl [HS0]
  · iexists _; isplitr; swap; · iexact HS0
    ipureintro
    exact read_weights arg13.view fs0 _ _
  isplitl [HS1]
  · iexists _, _; isplitr; swap; · iexact HS1
    ipureintro; rfl
  isplitl [HS2]
  · iexists _, _; isplitr; swap; · iexact HS2
    ipureintro; rfl
  iexists _; isplitr; swap; · iexact HS3
  ipureintro
  subst hs3
  exact read_stat (v := _) _ _ (statRaw_eq x0 x1 x2 x3 x4 x5 _ _ _ _ _ _ (readAt_strip arg1 harg1 x0) (readAt_strip arg2 harg2 x1) (readAt_rowStrip arg3 harg3 x2) (readAt_strip arg4 harg4 x3) (readAt_rowStrip arg5 harg5 x4) (readAt_rowStrip arg6 harg6 x5) arg14.view) arg16.view fs3 _ _ _ _ _ _ (off1_eq _) (off2_eq _) (off3_eq _)

end Cert.KernelIdeal.Frame

end
-- ==== Proof.IdealValueMiddle.lean ====
/- A point neither first nor last: the bit weights stay, nothing is copied out. -/
module

public import proofs.«01_k».proof.Proof.IdealValueBody

@[expose] public section

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Value

variable {F : FTy → Type} [FloatOps F] [Named F]

local notation "𝕄" => MT nD τ sig Unit (Elt F) ℕ (UR sig nD τ) ℕ

set_option maxHeartbeats 4400000 in
/-- A point neither first nor last: the bit weights stay, nothing is copied out. -/
theorem bodyValue_middle (c : Dev nD) (i : grid0.Coords) (h0 : ¬ isFirst i) (h2 : ¬ isLast i) (w : Vec F S1024x128 .bf16) :
    BodyValue (F := F) c i w w fun _ _ d => d := by

  intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    x0 x1 x2 x3 x4 x5 d7 d9 d10 s E K
  simp only [cc0_dropout_add_ln_fp8_eq_skeleton]; unfold cc0_dropout_add_ln_fp8_skel
  simp only [k0_part78_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%f7, %hf7, H7⟩, ⟨%d8, %f8, -, H8⟩, ⟨%f9, %hf9, H9⟩, ⟨%f10, %hf10, H10⟩,
    ⟨%d11, %f11, -, H11⟩, ⟨%fs0, %hs0, HS0⟩, ⟨%ds1, %fs1, -, HS1⟩, ⟨%ds2, %fs2, -, HS2⟩, ⟨%fs3, %hs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact h0 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    exact read_codes x0 x1 x2 x3 x4 x5 _ _ _ _ _ _ (readAt_strip arg1 harg1 x0) (readAt_strip arg2 harg2 x1) (readAt_rowStrip arg3 harg3 x2) (readAt_strip arg4 harg4 x3) (readAt_rowStrip arg5 harg5 x4) (readAt_rowStrip arg6 harg6 x5) arg14.view arg15.view arg7.view f6
  isplitl [H7]
  · iexists _; isplitr; swap; · iexact H7
    ipureintro
    exact hf7
  isplitl [H8]
  · iexists _; isplitr; swap; · iexact H8
    ipureintro
    exact read_mask x3 _ (readAt_strip arg4 harg4 x3) arg9.view f8 _ _ ((readAt_weights arg13.view fs0 _).trans hs0)
  isplitl [H9]
  · iexists _; isplitr; swap; · iexact H9
    ipureintro
    exact hf9
  isplitl [H10]
  · iexists _; isplitr; swap; · iexact H10
    ipureintro
    exact hf10
  isplitl [H11]
  · iexists _; isplitr; swap; · iexact H11
    ipureintro
    exact read_h x0 x1 x2 x3 _ _ _ _ (readAt_strip arg1 harg1 x0) (readAt_strip arg2 harg2 x1) (readAt_rowStrip arg3 harg3 x2) (readAt_strip arg4 harg4 x3) arg12.view f11
  isplitl [HS0]
  · iexists _; isplitr; swap; · iexact HS0
    ipureintro
    exact hs0
  isplitl [HS1]
  · iexists _, _; isplitr; swap; · iexact HS1
    ipureintro; rfl
  isplitl [HS2]
  · iexists _, _; isplitr; swap; · iexact HS2
    ipureintro; rfl
  iexists _; isplitr; swap; · iexact HS3
  ipureintro
  subst hs3
  exact read_stat (v := _) _ _ (statRaw_eq x0 x1 x2 x3 x4 x5 _ _ _ _ _ _ (readAt_strip arg1 harg1 x0) (readAt_strip arg2 harg2 x1) (readAt_rowStrip arg3 harg3 x2) (readAt_strip arg4 harg4 x3) (readAt_rowStrip arg5 harg5 x4) (readAt_rowStrip arg6 harg6 x5) arg14.view) arg16.view fs3 _ _ _ _ _ _ (off1_eq _) (off2_eq _) (off3_eq _)

end Cert.KernelIdeal.Frame

end
-- ==== Proof.IdealValueLast.lean ====
/- The last point: the statistics are copied out. -/
module

public import proofs.«01_k».proof.Proof.IdealValueBody
public import proofs.«01_k».proof.Proof.IdealRows

@[expose] public section

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Value

variable {F : FTy → Type} [FloatOps F] [Named F]

local notation "𝕄" => MT nD τ sig Unit (Elt F) ℕ (UR sig nD τ) ℕ

set_option maxHeartbeats 4400000 in
/-- The last point: the statistics are copied out. -/
theorem bodyValue_last (c : Dev nD) (i : grid0.Coords) (h0 : ¬ isFirst i) (h2 : isLast i) (w : Vec F S1024x128 .bf16) :
    BodyValue (F := F) c i w w fun k s _ => statPlane k s := by
  obtain rfl := isLast_eq i h2
  intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    x0 x1 x2 x3 x4 x5 d7 d9 d10 s E K
  simp only [cc0_dropout_add_ln_fp8_eq_skeleton]; unfold cc0_dropout_add_ln_fp8_skel
  simp only [k0_part78_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%f7, %hf7, H7⟩, ⟨%d8, %f8, -, H8⟩, ⟨%f9, %hf9, H9⟩, ⟨%f10, %hf10, H10⟩,
    ⟨%d11, %f11, -, H11⟩, ⟨%fs0, %hs0, HS0⟩, ⟨%ds1, %fs1, -, HS1⟩, ⟨%ds2, %fs2, -, HS2⟩, ⟨%fs3, %hs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact h0 | sl_exact h2)
  sl_step
  subst hs3
  have hstat : arg16.view.read (Elt F) (arg16.view.writes (Elt F) fs3 (bodyValue_last.sl.HS3_3 c arg1 harg1 arg2 harg2 arg3 harg3
      arg4 harg4 arg5 harg5 arg6 harg6 arg14 arg16 x0 x1 x2 x3 x4 x5 fs3))
      = statStep (coords 35) (statVals x0 x1 x2 x3 x4 x5) (arg16.view.read (Elt F) fs3) := by
    have hb : (0#1 : BitVec 1) = firstOf (coords 35) := by decide
    have hd : bodyValue_last.sl.r_12 = diag (coords 35) := diagGen_eq (coords 35) 3#32 (by decide)
    unfold bodyValue_last.sl.HS3_3
    refine read_stat_of (coords 35) _ _ (statRaw_eq x0 x1 x2 x3 x4 x5 _ _ _ _ _ _ (readAt_strip arg1 harg1 x0) (readAt_strip arg2 harg2 x1) (readAt_rowStrip arg3 harg3 x2) (readAt_strip arg4 harg4 x3) (readAt_rowStrip arg5 harg5 x4) (readAt_rowStrip arg6 harg6 x5) arg14.view)
      arg16.view fs3 _ _ _ _ _ _ (off1_eq _) (off2_eq _) (off3_eq _) _ _ _ ?_ ?_ ?_
    · exact lineGen_eq (coords 35) _ _ hb hd _ _
    · exact lineGen_eq (coords 35) _ _ hb hd _ _
    · exact lineGen_eq (coords 35) _ _ hb hd _ _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    exact read_codes x0 x1 x2 x3 x4 x5 _ _ _ _ _ _ (readAt_strip arg1 harg1 x0) (readAt_strip arg2 harg2 x1) (readAt_rowStrip arg3 harg3 x2) (readAt_strip arg4 harg4 x3) (readAt_rowStrip arg5 harg5 x4) (readAt_rowStrip arg6 harg6 x5) arg14.view arg15.view arg7.view f6
  isplitl [H7]
  · iexists _; isplitr; swap; · iexact H7
    ipureintro
    refine read_rows 0 _ arg8.view f7 _ _ _ _ _ _ _ _ _ _ _ _ _ _ _ _ _ _ ?_ ?_ ?_ ?_ ?_ ?_ ?_ ?_ ?_
    · exact copy_old _ _ arg16.view fs3 _ _ 0 0 rfl (by decide)
    · exact copy_old _ _ arg16.view fs3 _ _ 0 1 rfl (by decide)
    · exact copy_old _ _ arg16.view fs3 _ _ 0 2 rfl (by decide)
    · exact copy_old _ _ arg16.view fs3 _ _ 0 3 rfl (by decide)
    · exact copy_old _ _ arg16.view fs3 _ _ 0 4 rfl (by decide)
    · exact copy_old _ _ arg16.view fs3 _ _ 0 5 rfl (by decide)
    · exact copy_old _ _ arg16.view fs3 _ _ 0 6 rfl (by decide)
    · exact copy_old _ _ arg16.view fs3 _ _ 0 7 rfl (by decide)
    · unfold bodyValue_last.sl.v2694 bodyValue_last.sl.HS3_3
      exact copy_new 0 arg16.view fs3 _ _ _ _ _ _ _ _ _ (off1_eq _) (off2_eq _) (off3_eq _) _ hstat _ _ rfl
  isplitl [H8]
  · iexists _; isplitr; swap; · iexact H8
    ipureintro
    exact read_mask x3 _ (readAt_strip arg4 harg4 x3) arg9.view f8 _ _ ((readAt_weights arg13.view fs0 _).trans hs0)
  isplitl [H9]
  · iexists _; isplitr; swap; · iexact H9
    ipureintro
    refine read_rows 1 _ arg10.view f9 _ _ _ _ _ _ _ _ _ _ _ _ _ _ _ _ _ _ ?_ ?_ ?_ ?_ ?_ ?_ ?_ ?_ ?_
    · exact copy_old _ _ arg16.view fs3 _ _ 1 0 rfl (by decide)
    · exact copy_old _ _ arg16.view fs3 _ _ 1 1 rfl (by decide)
    · exact copy_old _ _ arg16.view fs3 _ _ 1 2 rfl (by decide)
    · exact copy_old _ _ arg16.view fs3 _ _ 1 3 rfl (by decide)
    · exact copy_old _ _ arg16.view fs3 _ _ 1 4 rfl (by decide)
    · exact copy_old _ _ arg16.view fs3 _ _ 1 5 rfl (by decide)
    · exact copy_old _ _ arg16.view fs3 _ _ 1 6 rfl (by decide)
    · exact copy_old _ _ arg16.view fs3 _ _ 1 7 rfl (by decide)
    · unfold bodyValue_last.sl.v2721 bodyValue_last.sl.HS3_3
      exact copy_new 1 arg16.view fs3 _ _ _ _ _ _ _ _ _ (off1_eq _) (off2_eq _) (off3_eq _) _ hstat _ _ rfl
  isplitl [H10]
  · iexists _; isplitr; swap; · iexact H10
    ipureintro
    refine read_rows 2 _ arg11.view f10 _ _ _ _ _ _ _ _ _ _ _ _ _ _ _ _ _ _ ?_ ?_ ?_ ?_ ?_ ?_ ?_ ?_ ?_
    · exact copy_old _ _ arg16.view fs3 _ _ 2 0 rfl (by decide)
    · exact copy_old _ _ arg16.view fs3 _ _ 2 1 rfl (by decide)
    · exact copy_old _ _ arg16.view fs3 _ _ 2 2 rfl (by decide)
    · exact copy_old _ _ arg16.view fs3 _ _ 2 3 rfl (by decide)
    · exact copy_old _ _ arg16.view fs3 _ _ 2 4 rfl (by decide)
    · exact copy_old _ _ arg16.view fs3 _ _ 2 5 rfl (by decide)
    · exact copy_old _ _ arg16.view fs3 _ _ 2 6 rfl (by decide)
    · exact copy_old _ _ arg16.view fs3 _ _ 2 7 rfl (by decide)
    · unfold bodyValue_last.sl.r_16 bodyValue_last.sl.v2748 bodyValue_last.sl.HS3_3
      exact copy_new 2 arg16.view fs3 _ _ _ _ _ _ _ _ _ (off1_eq _) (off2_eq _) (off3_eq _) _ hstat _ _ rfl
  isplitl [H11]
  · iexists _; isplitr; swap; · iexact H11
    ipureintro
    exact read_h x0 x1 x2 x3 _ _ _ _ (readAt_strip arg1 harg1 x0) (readAt_strip arg2 harg2 x1) (readAt_rowStrip arg3 harg3 x2) (readAt_strip arg4 harg4 x3) arg12.view f11
  isplitl [HS0]
  · iexists _; isplitr; swap; · iexact HS0
    ipureintro
    exact hs0
  isplitl [HS1]
  · iexists _, _; isplitr; swap; · iexact HS1
    ipureintro; rfl
  isplitl [HS2]
  · iexists _, _; isplitr; swap; · iexact HS2
    ipureintro; rfl
  iexists _; isplitr; swap; · iexact HS3
  ipureintro
  exact hstat

end Cert.KernelIdeal.Frame

end
-- ==== Proof.IdealValueFrame.lean ====
/-
  The run of the kernel with its results named: at each grid point the body finds its blocks, the bit weights and the
  statistics of the points before, and the launch leaves each result as the blocks written make it.
-/
module

public import proofs.«01_k».proof.Proof.IdealFrame
public import proofs.«01_k».proof.Proof.IdealValueFirst
public import proofs.«01_k».proof.Proof.IdealValueMiddle
public import proofs.«01_k».proof.Proof.IdealValueLast

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Value
open Cert.KernelIdeal.Frame hiding dats A_eq after0 after1 after2 after3 after4 after5 before0 before1 before2 before3 before4
  before5 bodyPre bodyPost leaves_in sound_body body_obligation run_main frame

variable {F : FTy → Type} [FloatOps F] [Named F]

local notation "𝕄" => MT nD τ sig Unit (Elt F) ℕ (UR sig nD τ) ℕ

/-- What the body leaves in the buffer of plane `k` at point `i`: the plane at the last point, what it held before it. -/
def outAt (i : grid0.Coords) (k : Fin 3) (s : Vec F S3x9x128 .f32) (d : Vec F S3x384 .f32) : Vec F S3x384 .f32 :=
  if isLast i then statPlane k s else d

/-- The body at any point, the bit weights already there unless it is the first. -/
theorem bodyValue (c : Dev nD) (i : grid0.Coords) (w : Vec F S1024x128 .bf16) (hw : ¬ isFirst i → w = weights) :
    BodyValue (F := F) c i w weights (outAt i) := by
  by_cases h0 : isFirst i
  · by_cases h2 : isLast i
    · obtain rfl := isLast_eq i h2
      exact absurd h0 (by decide +kernel)
    · have e : outAt (F := F) i = fun _ _ d => d := by funext k s d; exact if_neg h2
      rw [e]; exact bodyValue_first c i h0 h2 w
  · obtain rfl := hw h0
    by_cases h2 : isLast i
    · have e : outAt (F := F) i = fun k s _ => statPlane k s := by funext k s d; exact if_pos h2
      rw [e]; exact bodyValue_last c i h0 h2 weights
    · have e : outAt (F := F) i = fun _ _ d => d := by funext k s d; exact if_neg h2
      rw [e]; exact bodyValue_middle c i h0 h2 weights

/-- The first point of the four that share a line does not look at what the line held. -/
theorem firstOf_eq (i : grid0.Coords) (h : (i 0).val % 4 = 0) : firstOf i = 1#1 := by
  have h' : ∀ n : Fin 36, n.val % 4 = 0 → firstOf (coords n) = 1#1 := by decide +kernel
  rw [← coords_zero i] at h ⊢; exact h' _ h

theorem lineOf_first (i : grid0.Coords) (h : (i 0).val % 4 = 0) (v : FVec F S32x128 .f32) (a b : FVec F S1x1x128 .f32) :
    lineOf i v a = lineOf i v b := by
  unfold lineOf; rw [firstOf_eq i h]; rfl

/-- The statistics agree on every line begun before point `n`. -/
def Agree (n : ℕ) (s s' : Vec F S3x9x128 .f32) : Prop := ∀ y : S3x9x128.Idx, 4 * (y 1).val < n → s y = s' y

theorem Agree.step {i : grid0.Coords} {s s' : Vec F S3x9x128 .f32} (h : Agree (i 0).val s s') (v : Fin 3 → FVec F S32x128 .f32) :
    Agree ((i 0).val + 1) (statStep i v s) (statStep i v s') := by
  intro y hy
  unfold statStep
  by_cases ht : (y 1).val = (i 0).val / 4
  · rw [if_pos ht, if_pos ht]
    by_cases h4 : (i 0).val % 4 = 0
    · rw [lineOf_first i h4 _ _ (lineAt s' (y 0) (y 1))]
    · have e : lineAt s (y 0) (y 1) = lineAt s' (y 0) (y 1) := by
        funext x
        refine h _ ?_
        show 4 * (y 1).val < _
        omega
      rw [e]
  · rw [if_neg ht, if_neg ht]; exact h y (by omega)

variable (m : (ℓ : Loc nD τ sig) → Buf (Elt F) ℓ) (ρ : Dev nD → PrngReg)

/-- The values of the rows of point `t`. -/
def valsAt (c : Dev nD) (t : Fin cfg0.N) : Fin 3 → FVec F S32x128 .f32 :=
  statVals (iblk m c 0 t) (iblk m c 1 t) (iblk m c 2 t) (iblk m c 3 t) (iblk m c 4 t) (iblk m c 5 t)

/-- The statistics after `n` points. -/
def statSeq (c : Dev nD) (n : ℕ) : Vec F S3x9x128 .f32 :=
  Nat.rec (motive := fun _ => Vec F S3x9x128 .f32) (fun _ => Scalar.ofBits .f32 0x00000000#32)
    (fun k s => if h : k < cfg0.N then statStep (grid0.coords ⟨k, h⟩) (valsAt m c ⟨k, h⟩) s else s) n

theorem statSeq_succ (c : Dev nD) (t : Fin cfg0.N) :
    statSeq m c (t.val + 1) = statStep (grid0.coords t) (valsAt m c t) (statSeq m c t.val) :=
  dif_pos t.isLt

theorem coords_val (t : Fin cfg0.N) : (grid0.coords t 0).val = t.val := by
  have h : ∀ t : Fin grid0.N, (grid0.coords t 0).val = t.val := by decide +kernel
  exact h t

/-- What the scratch buffers hold before point `n`: the weights, unless it is the first, and statistics that agree with those
    of the points before. -/
def PhiV (c : Dev nD) (n : ℕ) : sProp 𝕄 :=
  iprop(iprop((∃ w, iprop(⌜n ≠ 0 → w = weights⌝ ∗ owns (c : Thread nD τ) sc0 fullShare w)) ∗ (∃ d, owns (c : Thread nD τ) sc1 fullShare d)
      ∗ (∃ d, owns (c : Thread nD τ) sc2 fullShare d) ∗ (∃ s, iprop(⌜Agree n s (statSeq m c n)⌝ ∗ owns (c : Thread nD τ) sc3 fullShare s)))
    ∗ ∃ r, prngReg c r)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesBlk (iblk m c 0 t) (iblk m c 1 t) (iblk m c 2 t) (iblk m c 3 t) (iblk m c 4 t) (iblk m c 5 t)
    | ⟨7, _⟩ => statPlane 0 (statSeq m c 36)
    | ⟨8, _⟩ => maskBlk (iblk m c 3 t) weights
    | ⟨9, _⟩ => statPlane 1 (statSeq m c 36)
    | ⟨10, _⟩ => statPlane 2 (statSeq m c 36)
    | ⟨11, _⟩ => hBlk (iblk m c 0 t) (iblk m c 1 t) (iblk m c 2 t) (iblk m c 3 t)
  Φ t := PhiV m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = codesBlk (iblk m c 0 t) (iblk m c 1 t) (iblk m c 2 t) (iblk m c 3 t) (iblk m c 4 t) (iblk m c 5 t) := by dsimp only [dats]
theorem after7 (c : Dev nD) (t : Fin cfg0.N) : (dats m 0 c).after 7 t = statPlane 0 (statSeq m c 36) := by dsimp only [dats]
theorem after8 (c : Dev nD) (t : Fin cfg0.N) : (dats m 0 c).after 8 t = maskBlk (iblk m c 3 t) weights := by dsimp only [dats]
theorem after9 (c : Dev nD) (t : Fin cfg0.N) : (dats m 0 c).after 9 t = statPlane 1 (statSeq m c 36) := by dsimp only [dats]
theorem after10 (c : Dev nD) (t : Fin cfg0.N) : (dats m 0 c).after 10 t = statPlane 2 (statSeq m c 36) := by dsimp only [dats]
theorem after11 (c : Dev nD) (t : Fin cfg0.N) : (dats m 0 c).after 11 t = hBlk (iblk m c 0 t) (iblk m c 1 t) (iblk m c 2 t) (iblk m c 3 t) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- A window written at every point is left at its block. -/
theorem leaves_live (c : Dev nD) (t : Fin cfg0.N) (w : Fin cfg0.W) (hi : cfg0.idle w (grid0.coords t) = false) :
    (dats m 0 c).leavesExact w t
      = owns (c : Thread nD τ) ((cfg0.win w).stage (cfg0.slots t w)) fullShare ((dats m 0 c).after w t) := by
  unfold Dat.leavesExact; rw [hi]

/-- Whether a point is the last. -/
theorem last_iff (t : Fin cfg0.N) : isLast (grid0.coords t) ↔ t.val = 35 := by
  have h : ∀ t : Fin grid0.N, isLast (grid0.coords t) ↔ t.val = 35 := by decide +kernel
  exact h t

/-- Whether a point is the first. -/
theorem first_iff (t : Fin cfg0.N) : isFirst (grid0.coords t) ↔ t.val = 0 := by
  have h : ∀ t : Fin grid0.N, isFirst (grid0.coords t) ↔ t.val = 0 := by decide +kernel
  exact h t

/-- After the last point the statistics are all fixed. -/
theorem plane_eq (c : Dev nD) (t : Fin cfg0.N) (h : t.val = 35) (k : Fin 3) (s : Vec F S3x9x128 .f32)
    (hs : Agree (t.val + 1) s (statSeq m c (t.val + 1))) : statPlane k s = statPlane k (statSeq m c 36) := by
  rw [h] at hs
  funext y
  refine hs _ ?_
  have h0 : (y 0).val < 3 := (y 0).isLt
  have h1 : (y 1).val < 384 := (y 1).isLt
  show 4 * (3 * (y 0).val + (y 1).val / 128) < 36
  omega

/-- The scales' buffer is left as it was found, at the last point at the plane. -/
theorem leaves7 (c : Dev nD) (t : Fin cfg0.N) (s : Vec F S3x9x128 .f32) (hs : Agree (t.val + 1) s (statSeq m c (t.val + 1))) (d) :
    owns (c : Thread nD τ) (ms7 t) fullShare (outAt (grid0.coords t) 0 s ((dats m 0 c).before 7 t d)) ⊢ (dats m 0 c).leavesExact 7 t := by
  unfold outAt
  by_cases h : isLast (grid0.coords t)
  · have hi : cfg0.idle 7 (grid0.coords t) = false := by
      show (!(k0_cond2 (grid0.coords t) == 1#1)) = false
      rw [h]; rfl
    rw [if_pos h, leaves_live m c t 7 hi, after7, plane_eq m c t ((last_iff t).1 h) 0 s hs]
  · have hi : cfg0.idle 7 (grid0.coords t) = true := by
      show (!(k0_cond2 (grid0.coords t) == 1#1)) = true
      rw [Bool.not_eq_true', beq_eq_false_iff_ne]; exact h
    have hf : (cfg0.win 7).flush t = false := by
      have hh : ∀ t : Fin grid0.N, t.val ≠ 35 → (cfg0.win 7).flush t = false := by decide +kernel
      exact hh t fun e => h ((last_iff t).2 e)
    rw [if_neg h, Dat.leavesExact_idle _ 7 t hi hf]
    iintro H; iexists d; iexact H

/-- The means' buffer is left as it was found, at the last point at the plane. -/
theorem leaves9 (c : Dev nD) (t : Fin cfg0.N) (s : Vec F S3x9x128 .f32) (hs : Agree (t.val + 1) s (statSeq m c (t.val + 1))) (d) :
    owns (c : Thread nD τ) (ms9 t) fullShare (outAt (grid0.coords t) 1 s ((dats m 0 c).before 9 t d)) ⊢ (dats m 0 c).leavesExact 9 t := by
  unfold outAt
  by_cases h : isLast (grid0.coords t)
  · have hi : cfg0.idle 9 (grid0.coords t) = false := by
      show (!(k0_cond2 (grid0.coords t) == 1#1)) = false
      rw [h]; rfl
    rw [if_pos h, leaves_live m c t 9 hi, after9, plane_eq m c t ((last_iff t).1 h) 1 s hs]
  · have hi : cfg0.idle 9 (grid0.coords t) = true := by
      show (!(k0_cond2 (grid0.coords t) == 1#1)) = true
      rw [Bool.not_eq_true', beq_eq_false_iff_ne]; exact h
    have hf : (cfg0.win 9).flush t = false := by
      have hh : ∀ t : Fin grid0.N, t.val ≠ 35 → (cfg0.win 9).flush t = false := by decide +kernel
      exact hh t fun e => h ((last_iff t).2 e)
    rw [if_neg h, Dat.leavesExact_idle _ 9 t hi hf]
    iintro H; iexists d; iexact H

/-- The reciprocal deviations' buffer is left as it was found, at the last point at the plane. -/
theorem leaves10 (c : Dev nD) (t : Fin cfg0.N) (s : Vec F S3x9x128 .f32) (hs : Agree (t.val + 1) s (statSeq m c (t.val + 1))) (d) :
    owns (c : Thread nD τ) (ms10 t) fullShare (outAt (grid0.coords t) 2 s ((dats m 0 c).before 10 t d)) ⊢ (dats m 0 c).leavesExact 10 t := by
  unfold outAt
  by_cases h : isLast (grid0.coords t)
  · have hi : cfg0.idle 10 (grid0.coords t) = false := by
      show (!(k0_cond2 (grid0.coords t) == 1#1)) = false
      rw [h]; rfl
    rw [if_pos h, leaves_live m c t 10 hi, after10, plane_eq m c t ((last_iff t).1 h) 2 s hs]
  · have hi : cfg0.idle 10 (grid0.coords t) = true := by
      show (!(k0_cond2 (grid0.coords t) == 1#1)) = true
      rw [Bool.not_eq_true', beq_eq_false_iff_ne]; exact h
    have hf : (cfg0.win 10).flush t = false := by
      have hh : ∀ t : Fin grid0.N, t.val ≠ 35 → (cfg0.win 10).flush t = false := by decide +kernel
      exact hh t fun e => h ((last_iff t).2 e)
    rw [if_neg h, Dat.leavesExact_idle _ 10 t hi hf]
    iintro H; iexists d; iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.succ = PhiV m c (t.val + 1) from rfl, show (dats m 0 c).Φ t.castSucc = PhiV m c t.val from rfl]
  rw [leaves_live m c t 0 rfl, after0]
  rw [leaves_live m c t 1 rfl, after1]
  rw [leaves_live m c t 2 rfl, after2]
  rw [leaves_live m c t 3 rfl, after3]
  rw [leaves_live m c t 4 rfl, after4]
  rw [leaves_live m c t 5 rfl, after5]
  rw [leaves_live m c t 6 rfl, after6]
  rw [leaves_live m c t 8 rfl, after8]
  rw [leaves_live m c t 11 rfl, after11]
  unfold PhiV
  iintro ⟨⟨⟨⟨%w, %hw, S0⟩, S1, S2, ⟨%s, %hs, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hs' : Agree (t.val + 1) (statStep (grid0.coords t) (valsAt m c t) s) (statSeq m c (t.val + 1)) := by
    rw [statSeq_succ]
    have h := Agree.step (i := grid0.coords t) (s := s) (s' := statSeq m c t.val) (by rw [coords_val]; exact hs) (valsAt m c t)
    rw [coords_val] at h; exact h
  iapply (bodyValue c (grid0.coords t) w (fun h => hw fun e => h ((first_iff t).2 e)) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _ _ _ s Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexact H9
  isplitl [H10]; · iexact H10
  isplitl [H11]; · iexists _; iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  isplitl [S0 S1 S2 S3 Hg]
  · isplitl [S0 S1 S2 S3]
    · isplitl [S0]
      · iexists weights; isplitr; · ipureintro; exact fun _ => rfl
        iexact S0
      isplitl [S1]; · iexact S1
      isplitl [S2]; · iexact S2
      iexists _; isplitr; swap; · iexact S3
      ipureintro; exact hs'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7 m c t _ hs' d7); iexact H7
  isplitl [H8]; · iexact H8
  isplitl [H9]; · iapply (leaves9 m c t _ hs' d9); iexact H9
  isplitl [H10]; · iapply (leaves10 m c t _ hs' d10); iexact H10
  iexact H11

/-- The pipeline's obligation for the body. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiV m c 0 from rfl, PhiA_eq]
  unfold PhiV
  iintro ⟨⟨⟨%w, S0⟩, S1, S2, ⟨%s, S3⟩⟩, Hg⟩
  isplitl [S0 S1 S2 S3]
  · isplitl [S0]
    · iexists w; isplitr; · ipureintro; exact fun h => absurd rfl h
      iexact S0
    isplitl [S1]; · iexact S1
    isplitl [S2]; · iexact S2
    iexists s; isplitr; · ipureintro; exact fun y h => absurd h (Nat.not_lt_zero _)
    iexact S3
  iexact Hg

theorem hout (c : Dev nD) : (dats m 0 c).Φ (Fin.last cfg0.N) ⊢ Pipeline.ΦA spec0 c := by
  rw [show (dats m 0 c).Φ (Fin.last cfg0.N) = PhiV m c cfg0.N from rfl, PhiA_eq]
  unfold PhiV
  iintro ⟨⟨⟨%w, -, S0⟩, S1, S2, ⟨%s, -, S3⟩⟩, Hg⟩
  isplitl [S0 S1 S2 S3]
  · isplitl [S0]; · iexists w; iexact S0
    isplitl [S1]; · iexact S1
    isplitl [S2]; · iexact S2
    iexists s; iexact S3
  iexact Hg

set_option backward.isDefEq.respectTransparency.types false in
/-- The launch: the arrays of the windows end at what their blocks make them. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Run

end
-- ==== Proof.IdealStat.lean ====
/-
  The row statistics of the kernel: after all points, lane `l` of line `t` of each plane holds the value of row `128 t + l`.
-/
module

public import proofs.«01_k».proof.Proof.IdealValueFrame
public import proofs.«01_k».proof.Proof.IdealRow

@[expose] public section

set_option maxRecDepth 16384

noncomputable section

namespace Cert.KernelIdeal.Run

open Idealize.ShloMosaic
open Cert.KernelIdeal Cert.KernelIdeal.Gen Cert.KernelIdeal.Value Cert.Spec
open Cert.KernelIdeal.Frame (coords coords_zero)
open scoped BigOperators

local notation "𝔼" => Idealize.ShloMosaic.Ideal

/-- Entry `l` of a vector of 128. -/
def ent128 (l : Fin 128) : S128.Idx := fun a => match a with | ⟨0, _⟩ => l

theorem quarter_eq (i : grid0.Coords) : quarter i = BitVec.ofNat 32 ((i 0).val % 4) := by
  have h : ∀ n : Fin 36, quarter (coords n) = BitVec.ofNat 32 (n.val % 4) := by decide +kernel
  have := h (i 0)
  rwa [coords_zero] at this

theorem firstOf_no (i : grid0.Coords) (h : (i 0).val % 4 ≠ 0) : firstOf i = 0#1 := by
  have h' : ∀ n : Fin 36, n.val % 4 ≠ 0 → firstOf (coords n) = 0#1 := by decide +kernel
  have := h' (i 0) h
  rwa [coords_zero] at this

/-- The lanes of a block's rows. -/
theorem diag_apply (i : grid0.Coords) (r : Fin 32) (l : Fin 128) :
    diag i (at2 r l) = if l.val = r.val + 32 * ((i 0).val % 4) then 1#1 else 0#1 := by
  have e : diag i (at2 r l) = IntOp.cmpi .eq (BitVec.ofNat 32 (0 * 128 + l.val))
      (BitVec.ofNat 32 (0 * 32 + r.val) + quarter i * 32#32) := rfl
  rw [e, quarter_eq, zero_mul, zero_mul, zero_add, zero_add]
  have hm : (i 0).val % 4 < 4 := Nat.mod_lt _ (by norm_num)
  have hr : r.val < 32 := r.isLt
  have hl : l.val < 128 := l.isLt
  have e2 : BitVec.ofNat 32 r.val + BitVec.ofNat 32 ((i 0).val % 4) * 32#32 = BitVec.ofNat 32 (r.val + 32 * ((i 0).val % 4)) := by
    rw [BitVec.ofNat_add, Nat.mul_comm, BitVec.ofNat_mul]
  rw [e2]
  show BitVec.ofBool (BitVec.ofNat 32 l.val == BitVec.ofNat 32 (r.val + 32 * ((i 0).val % 4))) = _
  by_cases h : l.val = r.val + 32 * ((i 0).val % 4)
  · rw [if_pos h, ← h, beq_self_eq_true]; rfl
  · rw [if_neg h, beq_eq_false_iff_ne.2]
    · rfl
    · intro e
      have := congrArg BitVec.toNat e
      simp only [BitVec.toNat_ofNat] at this
      omega

theorem lift_row (r : Fin 32) (l : Fin 128) : (reduces_S32x128_S128 : S32x128.Reduces [0] S128).lift (ent128 l) r = at2 r l :=
  funext fun a => match a with | ⟨0, _⟩ => rfl | ⟨1, _⟩ => rfl

/-- A block's values put on their lanes and summed over the rows. -/
theorem onLanes (i : grid0.Coords) (v : FVec 𝔼 S32x128 .f32) (l : Fin 128) :
    shapeCast S1x128 (multiReduction .add [0] S128 (select (diag i) v zeros) 0x00000000#32 reduces_S32x128_S128 (.inl rfl) rfl)
      shapeCasts_S128_S1x128 (lanes l)
      = if l.val / 32 = (i 0).val % 4 then v (at2 ⟨l.val % 32, Nat.mod_lt _ (by norm_num)⟩ l) else (0 : EReal) := by
  refine (shapeCast_apply _ _ (lanes l) (ent128 l) ?_).trans ?_
  · rw [Shape.rowMajor_val_one, Shape.rowMajor_val_two]
    show l.val = 0 * 128 + l.val
    omega
  refine (Ideal.multiReduction_add_single _ _ _ _ _ _).trans ?_
  have hs : ∀ r : Fin 32, select (diag i) v zeros (at2 r l) = if l.val = r.val + 32 * ((i 0).val % 4) then v (at2 r l) else (0 : EReal) := by
    intro r
    rw [at_select, diag_apply, zeros_apply]
    by_cases h : l.val = r.val + 32 * ((i 0).val % 4)
    · rw [if_pos h, if_pos h]; rfl
    · rw [if_neg h, if_neg h]; rfl
  refine (Finset.sum_congr rfl fun (r : Fin 32) _ => (congrArg _ (lift_row r l)).trans (hs r)).trans ?_
  have hm : (i 0).val % 4 < 4 := Nat.mod_lt _ (by norm_num)
  show (∑ r : Fin 32, if l.val = r.val + 32 * ((i 0).val % 4) then (v (at2 r l) : EReal) else 0) = _
  by_cases h : l.val / 32 = (i 0).val % 4
  · rw [if_pos h, Finset.sum_eq_single (⟨l.val % 32, Nat.mod_lt _ (by norm_num)⟩ : Fin 32)]
    · exact if_pos (show l.val = l.val % 32 + 32 * ((i 0).val % 4) by omega)
    · intro r _ hr
      refine if_neg fun e => hr (Fin.ext ?_)
      have : r.val < 32 := r.isLt
      show r.val = l.val % 32
      omega
    · intro h; exact absurd (Finset.mem_univ _) h
  · rw [if_neg h]
    refine Finset.sum_eq_zero fun r _ => if_neg fun e => h ?_
    have : r.val < 32 := r.isLt
    omega

theorem cast_line (q : S1x128.Idx → EReal) (l : Fin 128) :
    shapeCast S1x1x128 q shapeCasts_S1x128_S1x1x128 (lane l) = q (lanes l) := by
  refine shapeCast_apply q _ (lane l) (lanes l) ?_
  rw [Shape.rowMajor_val_two, Shape.rowMajor_val_three]
  show 0 * 128 + l.val = (0 * 1 + 0) * 128 + l.val
  omega

/-- A line at the first point of its tile. -/
theorem lineOf_apply_first (i : grid0.Coords) (h : (i 0).val % 4 = 0) (v : FVec 𝔼 S32x128 .f32) (old : FVec 𝔼 S1x1x128 .f32)
    (l : Fin 128) : lineOf i v old (lane l)
      = if l.val / 32 = (i 0).val % 4 then v (at2 ⟨l.val % 32, Nat.mod_lt _ (by norm_num)⟩ l) else (0 : EReal) := by
  unfold lineOf
  rw [cast_line, firstOf_eq i h]
  exact onLanes i v l

/-- A line at a later point of its tile. -/
theorem lineOf_apply_later (i : grid0.Coords) (h : (i 0).val % 4 ≠ 0) (v : FVec 𝔼 S32x128 .f32) (old : FVec 𝔼 S1x1x128 .f32)
    (l : Fin 128) : lineOf i v old (lane l)
      = (old (lane l) : EReal)
        + if l.val / 32 = (i 0).val % 4 then v (at2 ⟨l.val % 32, Nat.mod_lt _ (by norm_num)⟩ l) else (0 : EReal) := by
  unfold lineOf
  rw [cast_line, firstOf_no i h, ← onLanes i v l]
  refine congrArg (fun z : EReal => z + _) ?_
  exact shapeCast_line old (lanes l)

variable (m : (ℓ : Loc nD τ sig) → Buf (Elt 𝔼) ℓ)

/-- The value of plane `k` for row `g` of all 1152, as its point has it on lane `g mod 128`. -/
def rowVal (c : Dev nD) (k : Fin 3) (g : ℕ) : EReal :=
  if h : g / 32 < cfg0.N then
    valsAt m c ⟨g / 32, h⟩ k (at2 ⟨g % 32, Nat.mod_lt _ (by norm_num)⟩ ⟨g % 128, Nat.mod_lt _ (by norm_num)⟩)
  else 0

/-- The statistics after `n` points hold the values of the rows so far. -/
theorem statSeq_apply (c : Dev nD) (n : ℕ) (hn : n ≤ cfg0.N) (k : Fin 3) (t : Fin 9) (l : Fin 128) (ht : 4 * t.val < n) :
    (statSeq m c n (statIdx k t l) : EReal) = if 128 * t.val + l.val < 32 * n then rowVal m c k (128 * t.val + l.val) else 0 := by
  induction n with
  | zero => exact absurd ht (Nat.not_lt_zero _)
  | succ n ih =>
    have hl : l.val < 128 := l.isLt
    have hi : (grid0.coords (⟨n, hn⟩ : Fin cfg0.N) 0).val = n := coords_val ⟨n, hn⟩
    rw [show statSeq m c (n + 1) = statStep (grid0.coords ⟨n, hn⟩) (valsAt m c ⟨n, hn⟩) (statSeq m c n) from
      statSeq_succ m c ⟨n, hn⟩]
    have hval : l.val / 32 = n % 4 → t.val = n / 4 →
        rowVal m c k (128 * t.val + l.val) = valsAt m c ⟨n, hn⟩ k (at2 ⟨l.val % 32, Nat.mod_lt _ (by norm_num)⟩ l) := by
      intro h1 h2
      have e : (128 * t.val + l.val) / 32 = n := by omega
      have e1 : (128 * t.val + l.val) % 32 = l.val % 32 := by omega
      have e2 : (128 * t.val + l.val) % 128 = l.val := by omega
      unfold rowVal
      rw [dif_pos (by rw [e]; exact hn)]
      simp only [e, e1, e2]
    by_cases h : t.val = n / 4
    · have e : statStep (grid0.coords ⟨n, hn⟩) (valsAt m c ⟨n, hn⟩) (statSeq m c n) (statIdx k t l)
          = lineOf (grid0.coords ⟨n, hn⟩) (valsAt m c ⟨n, hn⟩ k) (lineAt (statSeq m c n) k t) (lane l) :=
        if_pos (h.trans (congrArg (· / 4) hi.symm))
      rw [e]
      by_cases h4 : n % 4 = 0
      · rw [lineOf_apply_first _ (by rw [hi]; exact h4), hi]
        by_cases h5 : l.val / 32 = n % 4
        · rw [if_pos h5, if_pos (by omega), hval h5 h]
        · rw [if_neg h5, if_neg (by omega)]
      · rw [lineOf_apply_later _ (by rw [hi]; exact h4), hi]
        have eo : lineAt (statSeq m c n) k t (lane l) = statSeq m c n (statIdx k t l) :=
          congrArg (statSeq m c n) (funext fun a => match a with | ⟨0, _⟩ => rfl | ⟨1, _⟩ => rfl | ⟨2, _⟩ => rfl)
        rw [eo, ih (by omega) (by omega)]
        by_cases h5 : l.val / 32 = n % 4
        · rw [if_pos h5, if_neg (by omega), if_pos (by omega), hval h5 h, zero_add]
        · rw [if_neg h5, add_zero]
          by_cases h6 : 128 * t.val + l.val < 32 * n
          · rw [if_pos h6, if_pos (by omega)]
          · rw [if_neg h6, if_neg (by omega)]
    · have e : statStep (grid0.coords ⟨n, hn⟩) (valsAt m c ⟨n, hn⟩) (statSeq m c n) (statIdx k t l) = statSeq m c n (statIdx k t l) :=
        if_neg fun e => h (e.trans (congrArg (· / 4) hi))
      rw [e, ih (by omega) (by omega), if_pos (by omega), if_pos (by omega)]

/-- A plane laid out as three rows of 384 holds at `(a, b)` the value of row `384 a + b`. -/
theorem plane_apply (c : Dev nD) (k : Fin 3) (y : S3x384.Idx) :
    (statPlane k (statSeq m c 36) y : EReal) = rowVal m c k (384 * (y 0).val + (y 1).val) := by
  have h0 : (y 0).val < 3 := (y 0).isLt
  have h1 : (y 1).val < 384 := (y 1).isLt
  have e : statPlane k (statSeq m c 36) y = statSeq m c 36 (statIdx k ⟨3 * (y 0).val + (y 1).val / 128, by omega⟩
      ⟨(y 1).val % 128, Nat.mod_lt _ (by norm_num)⟩) :=
    congrArg (statSeq m c 36) (funext fun a => match a with | ⟨0, _⟩ => rfl | ⟨1, _⟩ => rfl | ⟨2, _⟩ => rfl)
  rw [e, statSeq_apply m c 36 (by decide) _ _ _ (by show 4 * (3 * (y 0).val + (y 1).val / 128) < 36; omega),
    if_pos (by show 128 * (3 * (y 0).val + (y 1).val / 128) + (y 1).val % 128 < 32 * 36; omega)]
  refine congrArg (rowVal m c k) ?_
  show 128 * (3 * (y 0).val + (y 1).val / 128) + (y 1).val % 128 = _
  omega

end Cert.KernelIdeal.Run

end
-- ==== Proof.IdealArrays.lean ====
/-
  The results of the kernel, element by element, as functions of its arguments: every one is a function of the row of the
  arguments it belongs to.
-/
module

public import proofs.«01_k».proof.Proof.IdealInputs
public import proofs.«01_k».proof.Proof.IdealMask
public import proofs.«01_k».proof.Proof.IdealStat

@[expose] public section

set_option maxRecDepth 16384

noncomputable section

namespace Cert.KernelIdeal.Run

open Idealize.ShloMosaic Idealize.ShloMosaic.TcCoe Idealize.ShloMosaic.StableHlo Idealize.SL.Sem
open Cert.KernelIdeal Cert.KernelIdeal.Gen Cert.KernelIdeal.Value Cert.Spec

local notation "𝔼" => Idealize.ShloMosaic.Ideal

variable (m : (ℓ : Loc nD τ sig) → Buf (Elt 𝔼) ℓ)

/-! ### The rows the results are functions of -/

/-- Row `g` of the residual sum. -/
def hRow (c : Dev nD) (g : Fin 1152) : Row := fun j =>
  resid (m ((c : Thread nD τ).loc main_arg0) (argIdx g j)) (m ((c : Thread nD τ).loc main_arg1) (argIdx g j))
    (m ((c : Thread nD τ).loc main_arg2) (vecIdx j)) (m ((c : Thread nD τ).loc main_arg3) (argIdx g j))

/-- Row `g` normalised. -/
def yRow (c : Dev nD) (g : Fin 1152) : Row :=
  Spec.norm (hRow m c g) (fun j => m ((c : Thread nD τ).loc main_arg4) (vecIdx j))
    (fun j => m ((c : Thread nD τ).loc main_arg5) (vecIdx j))

/-- Byte `b` of row `g` of the mask. -/
def maskByte (c : Dev nD) (g : Fin 1152) (b : Fin 640) : BitVec 8 :=
  pack fun j => m ((c : Thread nD τ).loc main_arg3) (argIdx g (bitCol b j))

/-! ### The rows of a point's blocks -/

theorem rowOf_h (c : Dev nD) (t : Fin cfg0.N) (r : Fin 32) :
    rowOf (hStrips (F := 𝔼) (iblk m c 0 t) (iblk m c 1 t) (iblk m c 2 t) (iblk m c 3 t)) r = hRow m c (rowNo t r) := by
  funext j
  refine (rowOf_hval _ _ _ _ r j).trans ?_
  rw [row_0, row_1, row_2, row_3]
  rfl

theorem rowOf_hf (c : Dev nD) (t : Fin cfg0.N) (r : Fin 32) :
    rowOf (hfStrips (F := 𝔼) (iblk m c 0 t) (iblk m c 1 t) (iblk m c 2 t) (iblk m c 3 t)) r = hRow m c (rowNo t r) := by
  rw [← rowOf_h]
  funext j
  exact at_extf _ _ _

theorem rowOf_y (c : Dev nD) (t : Fin cfg0.N) (r : Fin 32) :
    rowOf (yStrips (F := 𝔼) (iblk m c 0 t) (iblk m c 1 t) (iblk m c 2 t) (iblk m c 3 t) (iblk m c 4 t) (iblk m c 5 t)) r
      = yRow m c (rowNo t r) := by
  refine (rowOf_yS _ _ _ r).trans ?_
  rw [rowOf_hf]
  unfold yRow
  exact congrArg₂ (Spec.norm _) (funext (row_4 m c t)) (funext (row_5 m c t))

/-! ### The blocks of a point -/

theorem inStrip_blk (r : Fin 32) (j : Fin 5120) : inStrip (blkIdx r j) = at2 r (laneNo j) :=
  funext fun a => match a with | ⟨0, _⟩ => rfl | ⟨1, _⟩ => rfl

theorem h_blk (c : Dev nD) (t : Fin cfg0.N) (r : Fin 32) (j : Fin 5120) :
    hBlk (F := 𝔼) (iblk m c 0 t) (iblk m c 1 t) (iblk m c 2 t) (iblk m c 3 t) (blkIdx r j) = hRow m c (rowNo t r) j := by
  rw [← rowOf_h]
  unfold hBlk ofStrips
  rw [inStrip_blk]
  rfl

theorem codes_blk (c : Dev nD) (t : Fin cfg0.N) (r : Fin 32) (j : Fin 5120) :
    codesBlk (F := 𝔼) (iblk m c 0 t) (iblk m c 1 t) (iblk m c 2 t) (iblk m c 3 t) (iblk m c 4 t) (iblk m c 5 t) (blkIdx r j)
      = code (yRow m c (rowNo t r)) j := by
  unfold codesBlk ofStrips
  rw [inStrip_blk]
  refine (codes_apply _ r j).trans ?_
  rw [rowOf_y]

/-- Byte `b` of row `r` of a block of the mask. -/
def byteBlk (r : Fin 32) (b : Fin 640) : S32x640.Idx := fun a => match a with | ⟨0, _⟩ => r | ⟨1, _⟩ => b

theorem mask_blk (c : Dev nD) (t : Fin cfg0.N) (r : Fin 32) (b : Fin 640) :
    maskBlk (F := 𝔼) (iblk m c 3 t) (weights (F := 𝔼)) (byteBlk r b) = maskByte m c (rowNo t r) b := by
  have e : inGroup (byteBlk r b) = at2 r ⟨b.val % 128, Nat.mod_lt _ (by norm_num)⟩ :=
    funext fun a => match a with | ⟨0, _⟩ => rfl | ⟨1, _⟩ => rfl
  unfold maskBlk maskByte
  rw [e]
  refine (maskOf_apply _ _ _ _).trans (congrArg pack (funext fun j => ?_))
  rw [← row_3 m c t r]
  unfold rowOf
  have e1 : 8 * (b.val / 128) + (8 * (b.val % 128) + j.val) / 128 = (8 * b.val + j.val) / 128 := by omega
  have e2 : (8 * (b.val % 128) + j.val) % 128 = (8 * b.val + j.val) % 128 := by omega
  show stripsOf (iblk m c 3 t) (8 * (b.val / 128) + (8 * (b.val % 128) + j.val) / 128) (at2 r ⟨(8 * (b.val % 128) + j.val) % 128, _⟩) =
    stripsOf (iblk m c 3 t) ((8 * b.val + j.val) / 128) (at2 r ⟨(8 * b.val + j.val) % 128, _⟩)
  simp only [e1, e2]

/-! ### The row statistics -/

/-- The row of all 1152 a place of 3 times 384 stands for. -/
def rowAt384 (y : S3x384.Idx) : Fin 1152 := ⟨384 * (y 0).val + (y 1).val, by
  have h0 : (y 0).val < 3 := (y 0).isLt
  have h1 : (y 1).val < 384 := (y 1).isLt
  omega⟩

/-- The row a point has at its row `g mod 32`. -/
theorem rowNo_eq (g : Fin 1152) (h : g.val / 32 < cfg0.N) : rowNo ⟨g.val / 32, h⟩ ⟨g.val % 32, Nat.mod_lt _ (by norm_num)⟩ = g :=
  Fin.ext (show 32 * (g.val / 32) + g.val % 32 = g.val by omega)

theorem point_lt (g : Fin 1152) : g.val / 32 < cfg0.N := by
  have : g.val < 1152 := g.isLt
  show g.val / 32 < 36
  omega

theorem spread_apply (v : FVec 𝔼 S32x1 .f32) (r : Fin 32) (l : Fin 128) : (spread v (at2 r l) : EReal) = v (col1 r) := by
  unfold spread
  rw [shapeCast_self]
  exact spread_col v r l

theorem scale_val (c : Dev nD) (g : Fin 1152) : rowVal m c 0 g.val = pw (Spec.expo (yRow m c g)) := by
  unfold rowVal
  rw [dif_pos (point_lt g)]
  refine (scale_apply _ _ _).trans ?_
  rw [rowOf_y, rowNo_eq]

theorem mean_val (c : Dev nD) (g : Fin 1152) : rowVal m c 1 g.val = mean (hRow m c g) := by
  unfold rowVal
  rw [dif_pos (point_lt g)]
  refine (spread_apply (meanOf (hfStrips (F := 𝔼) (iblk m c 0 _) (iblk m c 1 _) (iblk m c 2 _) (iblk m c 3 _))) _ _).trans ?_
  refine (rowMean_acc _ _).trans ?_
  rw [rowOf_hf, rowNo_eq]

theorem rstd_val (c : Dev nD) (g : Fin 1152) : rowVal m c 2 g.val = rstd (hRow m c g) := by
  unfold rowVal
  rw [dif_pos (point_lt g)]
  refine (spread_apply (rS (hfStrips (F := 𝔼) (iblk m c 0 _) (iblk m c 1 _) (iblk m c 2 _) (iblk m c 3 _))) _ _).trans ?_
  refine (rS_apply _ _).trans ?_
  rw [rowOf_hf, rowNo_eq]

/-! ### The results -/

theorem index_6 : ∀ t : Fin cfg0.N, win0_6.index t = ![t.val, 0] := by decide +kernel
theorem index_8 : ∀ t : Fin cfg0.N, win0_8.index t = ![t.val, 0] := by decide +kernel
theorem index_11 : ∀ t : Fin cfg0.N, win0_11.index t = ![t.val, 0] := by decide +kernel

/-- Byte `b` of row `g` of the mask's array. -/
def byteFlat (g : Fin 1152) (b : Fin 640) : S1152x640.Idx := fun a => match a with | ⟨0, _⟩ => g | ⟨1, _⟩ => b

theorem place_6 (t : Fin cfg0.N) (r : Fin 32) (j : Fin 5120) :
    ((win0_6.blk t).view.emb (blkIdx r j) : S1152x5120.Idx) = flatIdx (rowNo t r) j := by
  blk_ext [index_6, blkIdx, flatIdx, rowNo]

theorem place_8 (t : Fin cfg0.N) (r : Fin 32) (b : Fin 640) :
    ((win0_8.blk t).view.emb (byteBlk r b) : S1152x640.Idx) = byteFlat (rowNo t r) b := by
  blk_ext [index_8, byteBlk, byteFlat, rowNo]

theorem place_11 (t : Fin cfg0.N) (r : Fin 32) (j : Fin 5120) :
    ((win0_11.blk t).view.emb (blkIdx r j) : S1152x5120.Idx) = flatIdx (rowNo t r) j := by
  blk_ext [index_11, blkIdx, flatIdx, rowNo]

/-- The codes. -/
def codesArr (c : Dev nD) : FVec 𝔼 S1152x5120 .fp8e4m3 := fun y => code (yRow m c (y 0)) (y 1)

/-- The residual sums. -/
def hArr (c : Dev nD) : FVec 𝔼 S1152x5120 .bf16 := fun y => hRow m c (y 0) (y 1)

/-- The mask. -/
def maskArr (c : Dev nD) : IVec S1152x640 8 := fun y => maskByte m c (y 0) (y 1)

/-- The scales. -/
def scaleArr (c : Dev nD) : FVec 𝔼 S3x384 .f32 := fun y => pw (Spec.expo (yRow m c (rowAt384 y)))

/-- The means. -/
def meanArr (c : Dev nD) : FVec 𝔼 S3x384 .f32 := fun y => mean (hRow m c (rowAt384 y))

/-- The reciprocal deviations. -/
def rstdArr (c : Dev nD) : FVec 𝔼 S3x384 .f32 := fun y => rstd (hRow m c (rowAt384 y))

theorem blkIdx_eta (y : S32x5120.Idx) : blkIdx (y 0) (y 1) = y := funext fun a => match a with | ⟨0, _⟩ => rfl | ⟨1, _⟩ => rfl

theorem byteBlk_eta (y : S32x640.Idx) : byteBlk (y 0) (y 1) = y := funext fun a => match a with | ⟨0, _⟩ => rfl | ⟨1, _⟩ => rfl

theorem arr_6 (c : Dev nD) : (dats m 0 c).arrAt 6 cfg0.N = codesArr m c := by
  refine Pipeline.Dat.arrAt_eq_of_covers (dats m 0 c) 6 _ (by decide +kernel) fun t _ y => ?_
  blk_simp
  rw [after6]
  obtain ⟨r, j, rfl⟩ : ∃ r j, y = blkIdx r j := ⟨y 0, y 1, (blkIdx_eta y).symm⟩
  exact (codes_blk m c t r j).trans (congrArg (codesArr m c) (place_6 t r j)).symm

theorem arr_11 (c : Dev nD) : (dats m 0 c).arrAt 11 cfg0.N = hArr m c := by
  refine Pipeline.Dat.arrAt_eq_of_covers (dats m 0 c) 11 _ (by decide +kernel) fun t _ y => ?_
  blk_simp
  rw [after11]
  obtain ⟨r, j, rfl⟩ : ∃ r j, y = blkIdx r j := ⟨y 0, y 1, (blkIdx_eta y).symm⟩
  exact (h_blk m c t r j).trans (congrArg (hArr m c) (place_11 t r j)).symm

theorem arr_8 (c : Dev nD) : (dats m 0 c).arrAt 8 cfg0.N = maskArr m c := by
  refine Pipeline.Dat.arrAt_eq_of_covers (dats m 0 c) 8 _ (by decide +kernel) fun t _ y => ?_
  blk_simp
  rw [after8]
  obtain ⟨r, b, rfl⟩ : ∃ r b, y = byteBlk r b := ⟨y 0, y 1, (byteBlk_eta y).symm⟩
  exact (mask_blk m c t r b).trans (congrArg (maskArr m c) (place_8 t r b)).symm

theorem arr_7 (c : Dev nD) : (dats m 0 c).arrAt 7 cfg0.N = scaleArr m c := by
  refine Pipeline.Dat.arrAt_eq_of_after_last (dats m 0 c) 7 ⟨35, by decide⟩ (by decide +kernel) _ fun (y : S3x384.Idx) => ?_
  refine (cast_eq _ _).trans ?_
  rw [after7]
  refine (plane_apply m c 0 y).trans ?_
  exact scale_val m c (rowAt384 y)

theorem arr_9 (c : Dev nD) : (dats m 0 c).arrAt 9 cfg0.N = meanArr m c := by
  refine Pipeline.Dat.arrAt_eq_of_after_last (dats m 0 c) 9 ⟨35, by decide⟩ (by decide +kernel) _ fun (y : S3x384.Idx) => ?_
  refine (cast_eq _ _).trans ?_
  rw [after9]
  refine (plane_apply m c 1 y).trans ?_
  exact mean_val m c (rowAt384 y)

theorem arr_10 (c : Dev nD) : (dats m 0 c).arrAt 10 cfg0.N = rstdArr m c := by
  refine Pipeline.Dat.arrAt_eq_of_after_last (dats m 0 c) 10 ⟨35, by decide⟩ (by decide +kernel) _ fun (y : S3x384.Idx) => ?_
  refine (cast_eq _ _).trans ?_
  rw [after10]
  refine (plane_apply m c 2 y).trans ?_
  exact rstd_val m c (rowAt384 y)

/-! ### The run -/

variable (ρ : Dev nD → PrngReg)

/-- The kernel runs to the end, with every result a function of the arguments, and leaves the arguments as they were. -/
theorem run : θ_run defs (onTc (τ := τ) (main (F := 𝔼))) ⟨m, fun _ => 0, ρ⟩ (fun r => ∀ c : Dev nD,
      r.2.mem ((c.tc : Thread nD τ).loc main_v6_0) = codesArr m c
      ∧ r.2.mem ((c.tc : Thread nD τ).loc main_v6_1) = scaleArr m c
      ∧ r.2.mem ((c.tc : Thread nD τ).loc main_v6_2) = maskArr m c
      ∧ r.2.mem ((c.tc : Thread nD τ).loc main_v6_3) = meanArr m c
      ∧ r.2.mem ((c.tc : Thread nD τ).loc main_v6_4) = rstdArr m c
      ∧ r.2.mem ((c.tc : Thread nD τ).loc main_v6_5) = hArr m c
      ∧ r.2.mem ((c.tc : Thread nD τ).loc main_arg0) = m ((c : Thread nD τ).loc main_arg0)
      ∧ r.2.mem ((c.tc : Thread nD τ).loc main_arg1) = m ((c : Thread nD τ).loc main_arg1)
      ∧ r.2.mem ((c.tc : Thread nD τ).loc main_arg2) = m ((c : Thread nD τ).loc main_arg2)
      ∧ r.2.mem ((c.tc : Thread nD τ).loc main_arg3) = m ((c : Thread nD τ).loc main_arg3)
      ∧ r.2.mem ((c.tc : Thread nD τ).loc main_arg4) = m ((c : Thread nD τ).loc main_arg4)
      ∧ r.2.mem ((c.tc : Thread nD τ).loc main_arg5) = m ((c : Thread nD τ).loc main_arg5)) := by
  refine (θ_run defs _ _).mono (fun _ h c => ⟨((h c).1 6).trans (arr_6 m c), ((h c).1 7).trans (arr_7 m c),
    ((h c).1 8).trans (arr_8 m c), ((h c).1 9).trans (arr_9 m c), ((h c).1 10).trans (arr_10 m c), ((h c).1 11).trans (arr_11 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.KernelIdeal.Run

end
-- ==== Proof.RefRun.lean ====
/-
  The run of the reference. It is a straight line of array operations, so it runs to the end and leaves every buffer at what the
  operations, one after the other, make of the buffers' first contents; it writes none of its arguments.
-/
module

public import proofs.«01_k».proof.Proof.Gen.ReferenceIdeal
public import Idealize.ShloMosaic.Lib.StableHlo.Run
public import Idealize.ShloMosaic.Lib.Pipeline.Regions
public import Idealize.ShloMosaic.Init

@[expose] public section

set_option maxRecDepth 16384

noncomputable section

namespace Cert.ReferenceIdeal.Line

open Idealize.ShloMosaic Idealize.ShloMosaic.TcCoe Idealize.ShloMosaic.StableHlo Idealize.SL.Sem
open Cert.ReferenceIdeal Cert.ReferenceIdeal.Gen

variable {F : FTy → Type} [FloatOps F]

/-! ## The operations, in order -/

/-- The operations up to the mask: the kept elements and the masked sum before the select. -/
abbrev ops0_0 : List (HloOp τ sig (Elt F)) :=
  [ nullary main_c (constantI S_ 32 429496730#32),
    unary main_c main_v0 (broadcastInDim S3x384x5120 ![] bcast_S_S3x384x5120 : (⟨S_, .i32⟩ : BufTy).Contents (Elt F) → (⟨S3x384x5120, .i32⟩ : BufTy).Contents (Elt F)),
    binary main_arg3 main_v0 main_v1 (cmpi .uge : (⟨S3x384x5120, .i32⟩ : BufTy).Contents (Elt F) → (⟨S3x384x5120, .i32⟩ : BufTy).Contents (Elt F) → (⟨S3x384x5120, .i1⟩ : BufTy).Contents (Elt F)),
    unary main_arg1 main_v2 ((extf .f32 · bitsLt_bf16_f32) : (⟨S3x384x5120, .bf16⟩ : BufTy).Contents (Elt F) → (⟨S3x384x5120, .f32⟩ : BufTy).Contents (Elt F)),
    unary main_arg2 main_v3 (broadcastInDim S1x1x5120 ![2] bcast_S5120_S1x1x5120_2 : (⟨S5120, .f32⟩ : BufTy).Contents (Elt F) → (⟨S1x1x5120, .f32⟩ : BufTy).Contents (Elt F)),
    unary main_v3 main_v4 (broadcastInDim S3x384x5120 ![0, 1, 2] bcast_S1x1x5120_S3x384x5120_0_1_2 : (⟨S1x1x5120, .f32⟩ : BufTy).Contents (Elt F) → (⟨S3x384x5120, .f32⟩ : BufTy).Contents (Elt F)),
    binary main_v2 main_v4 main_v5 (addf : (⟨S3x384x5120, .f32⟩ : BufTy).Contents (Elt F) → (⟨S3x384x5120, .f32⟩ : BufTy).Contents (Elt F) → (⟨S3x384x5120, .f32⟩ : BufTy).Contents (Elt F)),
    nullary main_cst (constant S_ .f32 0x3F8E38E4#32),
    unary main_cst main_v6 (broadcastInDim S3x384x5120 ![] bcast_S_S3x384x5120 : (⟨S_, .f32⟩ : BufTy).Contents (Elt F) → (⟨S3x384x5120, .f32⟩ : BufTy).Contents (Elt F)),
    binary main_v5 main_v6 main_v7 (mulf : (⟨S3x384x5120, .f32⟩ : BufTy).Contents (Elt F) → (⟨S3x384x5120, .f32⟩ : BufTy).Contents (Elt F) → (⟨S3x384x5120, .f32⟩ : BufTy).Contents (Elt F)),
    nullary main_cst_0 (constant S_ .f32 0x00000000#32) ]

/-- They touch the program's own buffers only. -/
theorem ops0_0_sub : (ops0_0 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., nullary_bufs_sub .., unary_bufs_sub .., binary_bufs_sub .., nullary_bufs_sub ..⟩

/-- The select of the kept elements. -/
abbrev ops0_1 : List (HloOp τ sig (Elt F)) :=
  [ TRef.unary (.of main_cst_0 : TRef sig ⟨S_, .f32⟩) (.of main_call0_v0 : TRef sig ⟨S_, .f32⟩) id,
    TRef.unary (.of main_call0_v0 : TRef sig ⟨S_, .f32⟩) (.of main_call0_v1 : TRef sig ⟨S3x384x5120, .f32⟩) (broadcastInDim S3x384x5120 ![] bcast_S_S3x384x5120),
    TRef.ternary (.of main_v1 : TRef sig ⟨S3x384x5120, .i1⟩) (.of main_v7 : TRef sig ⟨S3x384x5120, .f32⟩) (.of main_call0_v1 : TRef sig ⟨S3x384x5120, .f32⟩) (.of main_v8 : TRef sig ⟨S3x384x5120, .f32⟩) select ]

/-- They touch the program's own buffers only. -/
theorem ops0_1_sub : (ops0_1 : List (HloOp τ sig (Elt F))).Forall fun op => op.bufs ⊆ tcRefs τ sig :=
  ⟨unary_bufs_sub .., unary_bufs_sub .., ternary_bufs_sub ..⟩

/-- The operations from the residual sum to the rows' quotients by 448, and the table of the powers of two. -/
abbrev ops0_2 : List (HloOp τ sig (Elt F)) :=
  [ unary main_arg0 main_v9 ((extf .f32 · bitsLt_bf16_f32) : (⟨S3x384x5120, .bf16⟩ : BufTy).Contents (Elt F) → (⟨S3x384x5120, .f32⟩ : BufTy).Contents (Elt F)),
    binary main_v9 main_v8 main_v10 (addf : (⟨S3x384x5120, .f32⟩ : BufTy).Contents (Elt F) → (⟨S3x384x5120, .f32⟩ : BufTy).Contents (Elt F) → (⟨S3x384x5120, .f32⟩ : BufTy).Contents (Elt F)),
    unary main_v10 main_v11 ((truncf .bf16 · bitsLt_bf16_f32) : (⟨S3x384x5120, .f32⟩ : BufTy).Contents (Elt F) → (⟨S3x384x5120, .bf16⟩ : BufTy).Contents (Elt F)),
    unary main_v11 main_v12 ((extf .f32 · bitsLt_bf16_f32) : (⟨S3x384x5120, .bf16⟩ : BufTy).Contents (Elt F) → (⟨S3x384x5120, .f32⟩ : BufTy).Contents (Elt F)),
    nullary main_cst_1 (constant S_ .f32 0x00000000#32),
    binary main_v12 main_cst_1 main_v13 ((fun x v => Host.reduceAdd x v reducesTo_S3x384x5120_S3x384_d2 h_S_) : (⟨S3x384x5120, .f32⟩ : BufTy).Contents (Elt F) → (⟨S_, .f32⟩ : BufTy).Contents (Elt F) → (⟨S3x384, .f32⟩ : BufTy).Contents (Elt F)),
    nullary main_cst_2 (constant S_ .f32 0x45A00000#32),
    unary main_cst_2 main_v14 (broadcastInDim S3x384 ![] bcast_S_S3x384 : (⟨S_, .f32⟩ : BufTy).Contents (Elt F) → (⟨S3x384, .f32⟩ : BufTy).Contents (Elt F)),
    binary main_v13 main_v14 main_v15 (Host.divf : (⟨S3x384, .f32⟩ : BufTy).Contents (Elt F) → (⟨S3x384, .f32⟩ : BufTy).Contents (Elt F) → (⟨S3x384, .f32⟩ : BufTy).Contents (Elt F)),
    unary main_v15 main_v16 (broadcastInDim S3x384x1 ![0, 1] bcast_S3x384_S3x384x1_0_1 : (⟨S3x384, .f32⟩ : BufTy).Contents (Elt F) → (⟨S3x384x1, .f32⟩ : BufTy).Contents (Elt F)),
    unary main_v16 main_v17 (broadcastInDim S3x384x5120 ![0, 1, 2] bcast_S3x384x1_S3x384x5120_0_1_2 : (⟨S3x384x1, .f32⟩ : BufTy).Contents (Elt F) → (⟨S3x384x5120, .f32⟩ : BufTy).Contents (Elt F)),
    binary main_v12 main_v17 main_v18 (subf : (⟨S3x384x5120, .f32⟩ : BufTy).Contents (Elt F) → (⟨S3x384x5120, .f32⟩ : BufTy).Contents (Elt F) → (⟨S3x384x5120, .f32⟩ : BufTy).Contents (Elt F)),
    binary main_v18 main_v18 main_v19 (mulf : (⟨S3x384x5120, .f32⟩ : BufTy).Contents (Elt F) → (⟨S3x384x5120, .f32⟩ : BufTy).Contents (Elt F) → (⟨S3x384x5120, .f32⟩ : BufTy).Contents (Elt F)),
    nullary main_cst_3 (constant S_ .f32 0x00000000#32),
    binary main_v19 main_cst_3 main_v20 ((fun x v => Host.reduceAdd x v reducesTo_S3x384x5120_S3x384_d2 h_S_) : (⟨S3x384x5120, .f32⟩ : BufTy).Contents (Elt F) → (⟨S_, .f32⟩ : BufTy).Contents (Elt F) → (⟨S3x384, .f32⟩ : BufTy).Contents (Elt F)),
    nullary main_cst_4 (constant S_ .f32 0x45A00000#32),
    unary main_cst_4 main_v21 (broadcastInDim S3x384 ![] bcast_S_S3x384 : (⟨S_, .f32⟩ : BufTy).Contents (Elt F) → (⟨S3x384, .f32⟩ : BufTy).Contents (Elt F)),
    binary main_v20 main_v21 main_v22 (Host.divf : (⟨S3x384, .f32⟩ : BufTy).Contents (Elt F) → (⟨S3x384, .f32⟩ : BufTy).Contents (Elt F) → (⟨S3x384, .f32⟩ : BufTy).Contents (Elt F)),
    nullary main_cst_5 (constant S_ .f32 0x3727C5AC#32),
    unary main_cst_5 main_v23 (broadcastInDim S3x384 ![] bcast_S_S3x384 : (⟨S_, .f32⟩ : BufTy).Contents (Elt F) → (⟨S3x384, .f32⟩ : BufTy).Contents (Elt F)),
    binary main_v22 main_v23 main_v24 (addf : (⟨S3x384, .f32⟩ : BufTy).Contents (Elt F) → (⟨S3x384, .f32⟩ : BufTy).Contents (Elt F) → (⟨S3x384, .f32⟩ : BufTy).Contents (Elt F)),
    unary main_v24 main_v25 (Host.rsqrt : (⟨S3x384, .f32⟩ : BufTy).Contents (Elt F) → (⟨S3x384, .f32⟩ : BufTy).Contents (Elt F)),
    unary main_v25 main_v26 (broadcastInDim S3x384x1 ![0, 1] bcast_S3x384_S3x384x1_0_1 : (⟨S3x384, .f32⟩ : BufTy).Contents (Elt F) → (⟨S3x384x1, .f32⟩ : BufTy).Contents (Elt F)),
    unary main_v26 main_v27 (broadcastInDim S3x384x5120 ![0, 1, 2] bcast_S3x384x1_S3x384x5120_0_1_2 : (⟨S3x384x1, .f32⟩ : BufTy).Contents (Elt F) → (⟨S3x384x5120, .f32⟩ : BufTy).Contents (Elt F)),
    binary main_v18 main_v27 main_v28 (mulf : (⟨S3x384x5120, .f32⟩ : BufTy).Contents (Elt F) → (⟨S3x384x5120, .f32⟩ : BufTy).Contents (Elt F) → (⟨S3x384x5120, .f32⟩ : BufTy).Contents (Elt F)),
    unary main_arg4 main_v29 (broadcastInDim S1x1x5120 ![2] bcast_S5120_S1x1x5120_2 : (⟨S5120, .f32⟩ : BufTy).Contents (Elt F) → (⟨S1x1x5120, .f32⟩ : BufTy).Contents (Elt F)),
    unary main_v29 main_v30 (broadcastInDim S3x384x5120 ![0, 1, 2] bcast_S1x1x5120_S3x384x5120_0_1_2 : (⟨S1x1x5120, .f32⟩ : BufTy).Contents (Elt F) → (⟨S3x384x5120, .f32⟩ : BufTy).Contents (Elt F)),
    binary main_v28 main_v30 main_v31 (mulf : (⟨S3x384x5120, .f32⟩ : BufTy).Contents (Elt F) → (⟨S3x384x5120, .f32⟩ : BufTy).Contents (Elt F) → (⟨S3x384x5120, .f32⟩ : BufTy).Contents (Elt F)),
    unary main_arg5 main_v32 (broadcastInDim S1x1x5120 ![2] bcast_S5120_S1x1x5120_2 : (⟨S5120, .f32⟩ : BufTy).Contents (Elt F) → (⟨S1x1x5120, .f32⟩ : BufTy).Contents (Elt F)),
    unary main_v32 main_v33 (broadcastInDim S3x384x5120 ![0, 1, 2] bcast_S1x1x5120_S3x384x5120_0_1_2 : (⟨S1x1x5120, .f32⟩ : BufTy).Contents (Elt F) → (⟨S3x384x5120, .f32⟩ : BufTy).Contents (Elt F)),
    binary main_v31 main_v33 main_v34 (addf : (⟨S3x384x5120, .f32⟩ : BufTy).Contents (Elt F) → (⟨S3x384x5120, .f32⟩ : BufTy).Contents (Elt F) → (⟨S3x384x5120, .f32⟩ : BufTy).Contents (Elt F)),
    unary main_v34 main_v35 (Host.absf : (⟨S3x384x5120, .f32⟩ : BufTy).Contents (Elt F) → (⟨S3x384x5120, .f32⟩ : BufTy).Contents (Elt F)),
    nullary main_cst_6 (constant S_ .f32 0xFF800000#32),
    binary main_v35 main_cst_6 main_v36 ((fun x v => Host.reduce FloatOps.maximumf x v reducesTo_S3x384x5120_S3x384_d2 h_S_) : (⟨S3x384x5120, .f32⟩ : BufTy).Contents (Elt F) → (⟨S_, .f32⟩ : BufTy).Contents (Elt F) → (⟨S3x384, .f32⟩ : BufTy).Contents (Elt F)),
    nullary main_cst_7 (constant S_ .f32 0x3B124925#32),
    unary main_cst_7 main_v37 (broadcastInDim S3x384 ![] bcast_S_S3x384 : (⟨S_, .f32⟩ : BufTy).Contents (Elt F) → (⟨S3x384, .f32⟩ : BufTy).Contents (Elt F)),
    binary main_v36 main_v37 main_v38 (mulf : (⟨S3x384, .f32⟩ : BufTy).Contents (Elt F) → (⟨S3x384, .f32⟩ : BufTy).Contents (Elt F) → (⟨S3x384, .f32⟩ : BufTy).Contents (Elt F)),
    nullary main_v39 (iotaInDim S247 32 0),
    nullary main_c_8 (constantI S_ 32 4294967170#32),
    unary main_c_8 main_v40 (broadcastInDim S247 ![] bcast_S_S247 : (⟨S_, .i32⟩ : BufTy).Contents (Elt F) → (⟨S247, .i32⟩ : BufTy).Contents (Elt F)),
    binary main_v40 main_v39 main_v41 (addi : (⟨S247, .i32⟩ : BufTy).Contents (Elt F) → (⟨S247, .i32⟩ : BufTy).Contents (Elt F) → (⟨S247, .i32⟩ : BufTy).Contents (Elt F)),
    unary main_v38 main_v42 (broadcastInDim S3x384x1 ![0, 1] bcast_S3x384_S3x384x1_0_1 : (⟨S3x384, .f32⟩ : BufTy).Contents (Elt F) → (⟨S3x384x1, .f32⟩ : BufTy).Contents (Elt F)),
    unary main_v41 main_v43 (sitofp .f32 : (⟨S247, .i32⟩ : BufTy).Contents (Elt F) → (⟨S247, .f32⟩ : BufTy).Contents (Elt F)),
    nullary main_cst_9 (constant S_ .f32 0x40000000#32),
    unary main_cst_9 main_v44 (broadcastInDim S247 ![] bcast_S_S247 : (⟨S_, .f32⟩ : BufTy).Contents (Elt F) → (⟨S247, .f32⟩ : BufTy).Contents (Elt F)),
    binary main_v44 main_v43 main_v45 (Host.powf : (⟨S247, .f32⟩ : BufTy).Contents (Elt F) → (⟨S247, .f32⟩ : BufTy).Contents (Elt F) → (⟨S247, .f32⟩ : BufTy).Contents (Elt F)),
    unary main_v45 main_v46 (broadcastInDim S1x1x247 ![2] bcast_S247_S1x1x247_2 : (⟨S247, .f32⟩ : BufTy).Contents (Elt F) → (⟨S1x1x247, .f32⟩ : BufTy).Contents (Elt F)),
    unary main_v42 main_v47 (broadcastInDim S3x384x247 ![0, 1, 2] bcast_S3x384x1_S3x384x247_0_1_2 : (⟨S3x384x1, .f32⟩ : BufTy).Contents (Elt F) → (⟨S3x384x247, .f32⟩ : BufTy).Contents (Elt F)) ]

/-- They touch the program's own buffers only. -/
theorem ops0_2_sub : (ops0_2 : List (HloOp τ sig (Elt F))).Forall fun op => op.bufs ⊆ tcRefs τ sig :=
  ⟨unary_bufs_sub .., binary_bufs_sub .., unary_bufs_sub .., unary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., nullary_bufs_sub .., nullary_bufs_sub .., unary_bufs_sub .., binary_bufs_sub .., unary_bufs_sub .., unary_bufs_sub .., nullary_bufs_sub .., unary_bufs_sub .., binary_bufs_sub .., unary_bufs_sub .., unary_bufs_sub ..⟩

/-- The count of the powers each row reaches, and when it is not used. -/
abbrev ops1_0 : List (HloOp τ sig (Elt F)) :=
  [ unary main_v46 main_v48 (broadcastInDim S3x384x247 ![0, 1, 2] bcast_S1x1x247_S3x384x247_0_1_2 : (⟨S1x1x247, .f32⟩ : BufTy).Contents (Elt F) → (⟨S3x384x247, .f32⟩ : BufTy).Contents (Elt F)),
    binary main_v47 main_v48 main_v49 (cmpf .oge : (⟨S3x384x247, .f32⟩ : BufTy).Contents (Elt F) → (⟨S3x384x247, .f32⟩ : BufTy).Contents (Elt F) → (⟨S3x384x247, .i1⟩ : BufTy).Contents (Elt F)),
    unary main_v49 main_v50 ((extui 32 · natLt_1_32) : (⟨S3x384x247, .i1⟩ : BufTy).Contents (Elt F) → (⟨S3x384x247, .i32⟩ : BufTy).Contents (Elt F)),
    nullary main_c_10 (constantI S_ 32 0#32),
    binary main_v50 main_c_10 main_v51 ((fun x v => Host.reduce IntOp.addi x v reducesTo_S3x384x247_S3x384_d2 h_S_) : (⟨S3x384x247, .i32⟩ : BufTy).Contents (Elt F) → (⟨S_, .i32⟩ : BufTy).Contents (Elt F) → (⟨S3x384, .i32⟩ : BufTy).Contents (Elt F)),
    nullary main_c_11 (constantI S_ 32 126#32),
    unary main_c_11 main_v52 (broadcastInDim S3x384 ![] bcast_S_S3x384 : (⟨S_, .i32⟩ : BufTy).Contents (Elt F) → (⟨S3x384, .i32⟩ : BufTy).Contents (Elt F)),
    binary main_v51 main_v52 main_v53 (subi : (⟨S3x384, .i32⟩ : BufTy).Contents (Elt F) → (⟨S3x384, .i32⟩ : BufTy).Contents (Elt F) → (⟨S3x384, .i32⟩ : BufTy).Contents (Elt F)),
    nullary main_cst_12 (constant S_ .f32 0x00000000#32),
    unary main_cst_12 main_v54 (broadcastInDim S3x384 ![] bcast_S_S3x384 : (⟨S_, .f32⟩ : BufTy).Contents (Elt F) → (⟨S3x384, .f32⟩ : BufTy).Contents (Elt F)),
    binary main_v36 main_v54 main_v55 (cmpf .oeq : (⟨S3x384, .f32⟩ : BufTy).Contents (Elt F) → (⟨S3x384, .f32⟩ : BufTy).Contents (Elt F) → (⟨S3x384, .i1⟩ : BufTy).Contents (Elt F)),
    nullary main_cst_13 (constant S_ .f32 0x7B800000#32),
    unary main_cst_13 main_v56 (broadcastInDim S3x384 ![] bcast_S_S3x384 : (⟨S_, .f32⟩ : BufTy).Contents (Elt F) → (⟨S3x384, .f32⟩ : BufTy).Contents (Elt F)),
    binary main_v38 main_v56 main_v57 (cmpf .oge : (⟨S3x384, .f32⟩ : BufTy).Contents (Elt F) → (⟨S3x384, .f32⟩ : BufTy).Contents (Elt F) → (⟨S3x384, .i1⟩ : BufTy).Contents (Elt F)),
    binary main_v55 main_v57 main_v58 (ori : (⟨S3x384, .i1⟩ : BufTy).Contents (Elt F) → (⟨S3x384, .i1⟩ : BufTy).Contents (Elt F) → (⟨S3x384, .i1⟩ : BufTy).Contents (Elt F)),
    nullary main_c_14 (constantI S_ 32 0#32) ]

/-- They touch the program's own buffers only. -/
theorem ops1_0_sub : (ops1_0 : List (HloOp τ sig (Elt F))).Forall fun op => op.bufs ⊆ tcRefs τ sig :=
  ⟨unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub ..⟩

/-- The select of the exponent. -/
abbrev ops1_1 : List (HloOp τ sig (Elt F)) :=
  [ TRef.unary (.of main_c_14 : TRef sig ⟨S_, .i32⟩) (.of main_call1_v0 : TRef sig ⟨S_, .i32⟩) id,
    TRef.unary (.of main_call1_v0 : TRef sig ⟨S_, .i32⟩) (.of main_call1_v1 : TRef sig ⟨S3x384, .i32⟩) (broadcastInDim S3x384 ![] bcast_S_S3x384),
    TRef.ternary (.of main_v58 : TRef sig ⟨S3x384, .i1⟩) (.of main_call1_v1 : TRef sig ⟨S3x384, .i32⟩) (.of main_v53 : TRef sig ⟨S3x384, .i32⟩) (.of main_v59 : TRef sig ⟨S3x384, .i32⟩) select ]

/-- They touch the program's own buffers only. -/
theorem ops1_1_sub : (ops1_1 : List (HloOp τ sig (Elt F))).Forall fun op => op.bufs ⊆ tcRefs τ sig :=
  ⟨unary_bufs_sub .., unary_bufs_sub .., ternary_bufs_sub ..⟩

/-- The scales and the scaled rows. -/
abbrev ops1_2 : List (HloOp τ sig (Elt F)) :=
  [ unary main_v59 main_v60 (sitofp .f32 : (⟨S3x384, .i32⟩ : BufTy).Contents (Elt F) → (⟨S3x384, .f32⟩ : BufTy).Contents (Elt F)),
    nullary main_cst_15 (constant S_ .f32 0x40000000#32),
    unary main_cst_15 main_v61 (broadcastInDim S3x384 ![] bcast_S_S3x384 : (⟨S_, .f32⟩ : BufTy).Contents (Elt F) → (⟨S3x384, .f32⟩ : BufTy).Contents (Elt F)),
    binary main_v61 main_v60 main_v62 (Host.powf : (⟨S3x384, .f32⟩ : BufTy).Contents (Elt F) → (⟨S3x384, .f32⟩ : BufTy).Contents (Elt F) → (⟨S3x384, .f32⟩ : BufTy).Contents (Elt F)),
    unary main_v59 main_v63 (negi : (⟨S3x384, .i32⟩ : BufTy).Contents (Elt F) → (⟨S3x384, .i32⟩ : BufTy).Contents (Elt F)),
    unary main_v63 main_v64 (sitofp .f32 : (⟨S3x384, .i32⟩ : BufTy).Contents (Elt F) → (⟨S3x384, .f32⟩ : BufTy).Contents (Elt F)),
    nullary main_cst_16 (constant S_ .f32 0x40000000#32),
    unary main_cst_16 main_v65 (broadcastInDim S3x384 ![] bcast_S_S3x384 : (⟨S_, .f32⟩ : BufTy).Contents (Elt F) → (⟨S3x384, .f32⟩ : BufTy).Contents (Elt F)),
    binary main_v65 main_v64 main_v66 (Host.powf : (⟨S3x384, .f32⟩ : BufTy).Contents (Elt F) → (⟨S3x384, .f32⟩ : BufTy).Contents (Elt F) → (⟨S3x384, .f32⟩ : BufTy).Contents (Elt F)),
    unary main_v66 main_v67 (broadcastInDim S3x384x1 ![0, 1] bcast_S3x384_S3x384x1_0_1 : (⟨S3x384, .f32⟩ : BufTy).Contents (Elt F) → (⟨S3x384x1, .f32⟩ : BufTy).Contents (Elt F)),
    unary main_v67 main_v68 (broadcastInDim S3x384x5120 ![0, 1, 2] bcast_S3x384x1_S3x384x5120_0_1_2 : (⟨S3x384x1, .f32⟩ : BufTy).Contents (Elt F) → (⟨S3x384x5120, .f32⟩ : BufTy).Contents (Elt F)),
    binary main_v34 main_v68 main_v69 (mulf : (⟨S3x384x5120, .f32⟩ : BufTy).Contents (Elt F) → (⟨S3x384x5120, .f32⟩ : BufTy).Contents (Elt F) → (⟨S3x384x5120, .f32⟩ : BufTy).Contents (Elt F)),
    nullary main_cst_17 (constant S_ .f32 0xC3E00000#32),
    nullary main_cst_18 (constant S_ .f32 0x43E00000#32) ]

/-- They touch the program's own buffers only. -/
theorem ops1_2_sub : (ops1_2 : List (HloOp τ sig (Elt F))).Forall fun op => op.bufs ⊆ tcRefs τ sig :=
  ⟨unary_bufs_sub .., nullary_bufs_sub .., unary_bufs_sub .., binary_bufs_sub .., unary_bufs_sub .., unary_bufs_sub .., nullary_bufs_sub .., unary_bufs_sub .., binary_bufs_sub .., unary_bufs_sub .., unary_bufs_sub .., binary_bufs_sub .., nullary_bufs_sub .., nullary_bufs_sub ..⟩

/-- The clip. -/
abbrev ops1_3 : List (HloOp τ sig (Elt F)) :=
  [ TRef.unary (.of main_cst_17 : TRef sig ⟨S_, .f32⟩) (.of main_call2_v0 : TRef sig ⟨S_, .f32⟩) id,
    TRef.unary (.of main_call2_v0 : TRef sig ⟨S_, .f32⟩) (.of main_call2_v1 : TRef sig ⟨S3x384x5120, .f32⟩) (broadcastInDim S3x384x5120 ![] bcast_S_S3x384x5120),
    TRef.binary (.of main_call2_v1 : TRef sig ⟨S3x384x5120, .f32⟩) (.of main_v69 : TRef sig ⟨S3x384x5120, .f32⟩) (.of main_call2_v2 : TRef sig ⟨S3x384x5120, .f32⟩) maximumf,
    TRef.unary (.of main_cst_18 : TRef sig ⟨S_, .f32⟩) (.of main_call2_v3 : TRef sig ⟨S_, .f32⟩) id,
    TRef.unary (.of main_call2_v3 : TRef sig ⟨S_, .f32⟩) (.of main_call2_v4 : TRef sig ⟨S3x384x5120, .f32⟩) (broadcastInDim S3x384x5120 ![] bcast_S_S3x384x5120),
    TRef.binary (.of main_call2_v4 : TRef sig ⟨S3x384x5120, .f32⟩) (.of main_call2_v2 : TRef sig ⟨S3x384x5120, .f32⟩) (.of main_v70 : TRef sig ⟨S3x384x5120, .f32⟩) minimumf ]

/-- They touch the program's own buffers only. -/
theorem ops1_3_sub : (ops1_3 : List (HloOp τ sig (Elt F))).Forall fun op => op.bufs ⊆ tcRefs τ sig :=
  ⟨unary_bufs_sub .., unary_bufs_sub .., binary_bufs_sub .., unary_bufs_sub .., unary_bufs_sub .., binary_bufs_sub ..⟩

/-- The cast of the codes, the packing of the mask and the last reshapes. -/
abbrev ops1_4 : List (HloOp τ sig (Elt F)) :=
  [ unary main_v70 main_v71 (Host.convertf .fp8e4m3 : (⟨S3x384x5120, .f32⟩ : BufTy).Contents (Elt F) → (⟨S3x384x5120, .fp8e4m3⟩ : BufTy).Contents (Elt F)),
    reshape main_v1 main_v72 (rfl : (.i1 : EltTy) = .i1) shapeCasts_S3x384x5120_S3x384x640x8,
    unary main_v72 main_v73 ((extui 32 · natLt_1_32) : (⟨S3x384x640x8, .i1⟩ : BufTy).Contents (Elt F) → (⟨S3x384x640x8, .i32⟩ : BufTy).Contents (Elt F)),
    nullary main_v74 (iotaInDim S8 32 0),
    unary main_v74 main_v75 (broadcastInDim S1x1x1x8 ![3] bcast_S8_S1x1x1x8_3 : (⟨S8, .i32⟩ : BufTy).Contents (Elt F) → (⟨S1x1x1x8, .i32⟩ : BufTy).Contents (Elt F)),
    unary main_v75 main_v76 (broadcastInDim S3x384x640x8 ![0, 1, 2, 3] bcast_S1x1x1x8_S3x384x640x8_0_1_2_3 : (⟨S1x1x1x8, .i32⟩ : BufTy).Contents (Elt F) → (⟨S3x384x640x8, .i32⟩ : BufTy).Contents (Elt F)),
    binary main_v73 main_v76 main_v77 (Host.shli : (⟨S3x384x640x8, .i32⟩ : BufTy).Contents (Elt F) → (⟨S3x384x640x8, .i32⟩ : BufTy).Contents (Elt F) → (⟨S3x384x640x8, .i32⟩ : BufTy).Contents (Elt F)),
    nullary main_c_19 (constantI S_ 32 0#32),
    binary main_v77 main_c_19 main_v78 ((fun x v => Host.reduce IntOp.addi x v reducesTo_S3x384x640x8_S3x384x640_d3 h_S_) : (⟨S3x384x640x8, .i32⟩ : BufTy).Contents (Elt F) → (⟨S_, .i32⟩ : BufTy).Contents (Elt F) → (⟨S3x384x640, .i32⟩ : BufTy).Contents (Elt F)),
    reshape main_v71 main_v79 (rfl : (.fp8e4m3 : EltTy) = .fp8e4m3) shapeCasts_S3x384x5120_S1152x5120,
    unary main_v78 main_v80 ((trunci 8 · natLt_8_32) : (⟨S3x384x640, .i32⟩ : BufTy).Contents (Elt F) → (⟨S3x384x640, .i8⟩ : BufTy).Contents (Elt F)),
    reshape main_v80 main_v81 (rfl : (.i8 : EltTy) = .i8) shapeCasts_S3x384x640_S1152x640,
    reshape main_v11 main_v82 (rfl : (.bf16 : EltTy) = .bf16) shapeCasts_S3x384x5120_S1152x5120 ]

/-- They touch the program's own buffers only. -/
theorem ops1_4_sub : (ops1_4 : List (HloOp τ sig (Elt F))).Forall fun op => op.bufs ⊆ tcRefs τ sig :=
  ⟨unary_bufs_sub .., reshape_bufs_sub .., unary_bufs_sub .., nullary_bufs_sub .., unary_bufs_sub .., unary_bufs_sub .., binary_bufs_sub .., nullary_bufs_sub .., binary_bufs_sub .., reshape_bufs_sub .., unary_bufs_sub .., reshape_bufs_sub .., reshape_bufs_sub ..⟩

/-- All of them. -/
abbrev ops : List (HloOp τ sig (Elt F)) := List.flatten [ops0_0, ops0_1, ops0_2, ops1_0, ops1_1, ops1_2, ops1_3, ops1_4]

/-! ## The program is that line -/

/-- The first part of the program, as its pieces one after the other. -/
theorem part0 (c : Dev nD) : main_part0 (F := F) c = (Pipeline.chainK
  [ seq ops0_0,
    seq ops0_1 ]
  (seq ops0_2) : Prog (TpuEff nD τ sig (Elt F) (Pipeline.Sig Λ₀ (Fin 0) fun p => (pcfgs (F := F) p).Adm) .tc) PUnit) := by
  rewrite [chainK_seq_cons, Pipeline.chainK_cons]
  chain_rfl

/-- The second part. -/
theorem part1 (c : Dev nD) : main_part1 (F := F) c = (Pipeline.chain
  [ seq ops1_0,
    seq ops1_1,
    seq ops1_2,
    seq ops1_3,
    seq ops1_4 ] : Prog (TpuEff nD τ sig (Elt F) (Pipeline.Sig Λ₀ (Fin 0) fun p => (pcfgs (F := F) p).Adm) .tc) PUnit) := by
  rewrite [chain_seq_cons, Pipeline.chain_cons, chain_seq_cons, Pipeline.chain_cons, chain_seq_cons]
  chain_rfl

/-- The program runs all the operations, one after the other. -/
theorem main_eq (c : Dev nD) : main (F := F) c = seq ops := by
  show (main_part0 (F := F) c >>= fun _ => main_part1 (F := F) c) = _
  rewrite [part1, part0, Pipeline.chainK_bind_chain]
  refine (chain_map_seq_append [ops0_0, ops0_1, ops0_2, ops1_0, ops1_1, ops1_2, ops1_3, ops1_4] []).trans ?_
  show (seq ops >>= fun _ => pure PUnit.unit) = _
  exact bind_pure_unit

/-! ## What the run needs of the operations -/

/-- Each of them determines what it writes. -/
theorem ops0_0_fresh : (ops0_0 : List (HloOp τ sig (Elt F))).Forall fun op => op.fresh = ∅ := by
  repeat' constructor

/-- Each of them determines what it writes. -/
theorem ops0_1_fresh : (ops0_1 : List (HloOp τ sig (Elt F))).Forall fun op => op.fresh = ∅ := by
  repeat' constructor

/-- Each of them determines what it writes. -/
theorem ops0_2_fresh : (ops0_2 : List (HloOp τ sig (Elt F))).Forall fun op => op.fresh = ∅ := by
  repeat' constructor

/-- Each of them determines what it writes. -/
theorem ops1_0_fresh : (ops1_0 : List (HloOp τ sig (Elt F))).Forall fun op => op.fresh = ∅ := by
  repeat' constructor

/-- Each of them determines what it writes. -/
theorem ops1_1_fresh : (ops1_1 : List (HloOp τ sig (Elt F))).Forall fun op => op.fresh = ∅ := by
  repeat' constructor

/-- Each of them determines what it writes. -/
theorem ops1_2_fresh : (ops1_2 : List (HloOp τ sig (Elt F))).Forall fun op => op.fresh = ∅ := by
  repeat' constructor

/-- Each of them determines what it writes. -/
theorem ops1_3_fresh : (ops1_3 : List (HloOp τ sig (Elt F))).Forall fun op => op.fresh = ∅ := by
  repeat' constructor

/-- Each of them determines what it writes. -/
theorem ops1_4_fresh : (ops1_4 : List (HloOp τ sig (Elt F))).Forall fun op => op.fresh = ∅ := by
  repeat' constructor

/-- All operations touch the program's own buffers only. -/
theorem ops_sub : (ops : List (HloOp τ sig (Elt F))).Forall fun op => op.bufs ⊆ tcRefs τ sig := by
  rw [List.forall_iff_forall_mem]
  intro op h
  simp only [ops, List.flatten_cons, List.flatten_nil, List.append_nil, List.mem_append] at h
  rcases h with h | h | h | h | h | h | h | h
  · exact List.forall_iff_forall_mem.mp ops0_0_sub op h
  · exact List.forall_iff_forall_mem.mp ops0_1_sub op h
  · exact List.forall_iff_forall_mem.mp ops0_2_sub op h
  · exact List.forall_iff_forall_mem.mp ops1_0_sub op h
  · exact List.forall_iff_forall_mem.mp ops1_1_sub op h
  · exact List.forall_iff_forall_mem.mp ops1_2_sub op h
  · exact List.forall_iff_forall_mem.mp ops1_3_sub op h
  · exact List.forall_iff_forall_mem.mp ops1_4_sub op h

/-- Every operation determines what it writes. -/
theorem ops_fresh (op : HloOp τ sig (Elt F)) (h : op ∈ (ops : List (HloOp τ sig (Elt F)))) : op.fresh = ∅ := by
  simp only [ops, List.flatten_cons, List.flatten_nil, List.append_nil, List.mem_append] at h
  rcases h with h | h | h | h | h | h | h | h
  · exact List.forall_iff_forall_mem.mp ops0_0_fresh op h
  · exact List.forall_iff_forall_mem.mp ops0_1_fresh op h
  · exact List.forall_iff_forall_mem.mp ops0_2_fresh op h
  · exact List.forall_iff_forall_mem.mp ops1_0_fresh op h
  · exact List.forall_iff_forall_mem.mp ops1_1_fresh op h
  · exact List.forall_iff_forall_mem.mp ops1_2_fresh op h
  · exact List.forall_iff_forall_mem.mp ops1_3_fresh op h
  · exact List.forall_iff_forall_mem.mp ops1_4_fresh op h

/-- No buffer and no counter of the program is scoped. -/
theorem scopedRefs_eq : (Finset.univ.filter fun b : Ref sig .tc => b.isScoped) = ∅ := by decide
theorem scopedSems_eq : (Finset.univ.filter fun sm : SemLoc sig => sm.isScoped .tc) = ∅ := by decide

/-! ## No operation writes an argument -/

/-- Argument 0 keeps its contents. -/
theorem after_arg0 (V : Valuation τ sig (Elt F)) : after ops V (main_arg0 : DevRef τ sig) = V (main_arg0 : DevRef τ sig) := by
  simp only [ops, List.flatten_cons, List.flatten_nil, List.append_nil, ops0_0, ops0_1, ops0_2, ops1_0, ops1_1, ops1_2, ops1_3, ops1_4, List.cons_append, List.nil_append]
  after_results

/-- Argument 1 keeps its contents. -/
theorem after_arg1 (V : Valuation τ sig (Elt F)) : after ops V (main_arg1 : DevRef τ sig) = V (main_arg1 : DevRef τ sig) := by
  simp only [ops, List.flatten_cons, List.flatten_nil, List.append_nil, ops0_0, ops0_1, ops0_2, ops1_0, ops1_1, ops1_2, ops1_3, ops1_4, List.cons_append, List.nil_append]
  after_results

/-- Argument 2 keeps its contents. -/
theorem after_arg2 (V : Valuation τ sig (Elt F)) : after ops V (main_arg2 : DevRef τ sig) = V (main_arg2 : DevRef τ sig) := by
  simp only [ops, List.flatten_cons, List.flatten_nil, List.append_nil, ops0_0, ops0_1, ops0_2, ops1_0, ops1_1, ops1_2, ops1_3, ops1_4, List.cons_append, List.nil_append]
  after_results

/-- Argument 3 keeps its contents. -/
theorem after_arg3 (V : Valuation τ sig (Elt F)) : after ops V (main_arg3 : DevRef τ sig) = V (main_arg3 : DevRef τ sig) := by
  simp only [ops, List.flatten_cons, List.flatten_nil, List.append_nil, ops0_0, ops0_1, ops0_2, ops1_0, ops1_1, ops1_2, ops1_3, ops1_4, List.cons_append, List.nil_append]
  after_results

/-- Argument 4 keeps its contents. -/
theorem after_arg4 (V : Valuation τ sig (Elt F)) : after ops V (main_arg4 : DevRef τ sig) = V (main_arg4 : DevRef τ sig) := by
  simp only [ops, List.flatten_cons, List.flatten_nil, List.append_nil, ops0_0, ops0_1, ops0_2, ops1_0, ops1_1, ops1_2, ops1_3, ops1_4, List.cons_append, List.nil_append]
  after_results

/-- Argument 5 keeps its contents. -/
theorem after_arg5 (V : Valuation τ sig (Elt F)) : after ops V (main_arg5 : DevRef τ sig) = V (main_arg5 : DevRef τ sig) := by
  simp only [ops, List.flatten_cons, List.flatten_nil, List.append_nil, ops0_0, ops0_1, ops0_2, ops1_0, ops1_1, ops1_2, ops1_3, ops1_4, List.cons_append, List.nil_append]
  after_results

/-! ## The run -/

variable (m : (ℓ : Loc nD τ sig) → Buf (Elt F) ℓ) (ρ : Dev nD → PrngReg)

/-- The program runs to the end, and every buffer is left at what the operations make of the first contents. -/
theorem run_main : θ_run defs (onTc (τ := τ) (main (F := F))) ⟨m, fun _ => 0, ρ⟩ fun r =>
    ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- It leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_arg0).trans (after_arg0 _), (h c main_arg1).trans (after_arg1 _), (h c main_arg2).trans (after_arg2 _), (h c main_arg3).trans (after_arg3 _), (h c main_arg4).trans (after_arg4 _), (h c main_arg5).trans (after_arg5 _)⟩) (run_main m ρ)

/-- It leaves the arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨h, sem_eq_zero_of_no_sems (by decide) r.2⟩) (unchanged m ρ)

end Cert.ReferenceIdeal.Line

end
-- ==== Proof.RefValue.lean ====
/-
  What the reference computes, stage by stage, as functions of its arguments, and that its run ends with these in its
  result buffers.
-/
module

public import proofs.«01_k».proof.Proof.RefRun

@[expose] public section

set_option maxRecDepth 16384

noncomputable section

namespace Cert.ReferenceIdeal.Value

open Idealize.ShloMosaic Idealize.ShloMosaic.TcCoe Idealize.ShloMosaic.StableHlo Idealize.SL.Sem
open Cert.ReferenceIdeal Cert.ReferenceIdeal.Gen Cert.ReferenceIdeal.Line

variable {F : FTy → Type} [FloatOps F]

/-- Which elements are kept. -/
def refKeep (r : IVec S3x384x5120 32) : IVec S3x384x5120 1 :=
  cmpi .uge r (broadcastInDim S3x384x5120 ![] bcast_S_S3x384x5120 (constantI S_ 32 429496730#32))

/-- A vector of 5120 columns repeated over the rows. -/
def refRow (b : FVec F S5120 .f32) : FVec F S3x384x5120 .f32 :=
  broadcastInDim S3x384x5120 ![0, 1, 2] bcast_S1x1x5120_S3x384x5120_0_1_2 (broadcastInDim S1x1x5120 ![2] bcast_S5120_S1x1x5120_2 b)

/-- A value of each row repeated over the columns. -/
def refCol (b : FVec F S3x384 .f32) : FVec F S3x384x5120 .f32 :=
  broadcastInDim S3x384x5120 ![0, 1, 2] bcast_S3x384x1_S3x384x5120_0_1_2 (broadcastInDim S3x384x1 ![0, 1] bcast_S3x384_S3x384x1_0_1 b)

/-- One float everywhere. -/
def refAll (w : BitVec 32) : FVec F S3x384x5120 .f32 := broadcastInDim S3x384x5120 ![] bcast_S_S3x384x5120 (constant S_ .f32 w)

/-- One float in every row. -/
def refRows (w : BitVec 32) : FVec F S3x384 .f32 := broadcastInDim S3x384 ![] bcast_S_S3x384 (constant S_ .f32 w)

/-- The residual sum. -/
def refH (x a : FVec F S3x384x5120 .bf16) (b : FVec F S5120 .f32) (r : IVec S3x384x5120 32) : FVec F S3x384x5120 .bf16 :=
  truncf .bf16 (addf (extf .f32 x bitsLt_bf16_f32)
    (select (refKeep r) (mulf (addf (extf .f32 a bitsLt_bf16_f32) (refRow b)) (refAll 0x3F8E38E4#32)) (refAll 0x00000000#32))) bitsLt_bf16_f32

/-- The mean of each row. -/
def refMean (h : FVec F S3x384x5120 .f32) : FVec F S3x384 .f32 :=
  Host.divf (Host.reduceAdd h (constant S_ .f32 0x00000000#32) reducesTo_S3x384x5120_S3x384_d2 h_S_) (refRows 0x45A00000#32)

/-- The residual sum less the row means. -/
def refC (h : FVec F S3x384x5120 .f32) : FVec F S3x384x5120 .f32 := subf h (refCol (refMean h))

/-- The reciprocal deviation of each row. -/
def refRstd (h : FVec F S3x384x5120 .f32) : FVec F S3x384 .f32 :=
  Host.rsqrt (addf (refMean (mulf (refC h) (refC h))) (refRows 0x3727C5AC#32))

/-- The normalised rows. -/
def refY (h : FVec F S3x384x5120 .f32) (g b : FVec F S5120 .f32) : FVec F S3x384x5120 .f32 :=
  addf (mulf (mulf (refC h) (refCol (refRstd h))) (refRow g)) (refRow b)

/-- The largest absolute value of each row. -/
def refTop (y : FVec F S3x384x5120 .f32) : FVec F S3x384 .f32 :=
  Host.reduce FloatOps.maximumf (Host.absf y) (constant S_ .f32 0xFF800000#32) reducesTo_S3x384x5120_S3x384_d2 h_S_

/-- That over 448. -/
def refT (y : FVec F S3x384x5120 .f32) : FVec F S3x384 .f32 := mulf (refTop y) (refRows 0x3B124925#32)

/-- The powers of two from `2 ^ -126` on. -/
def refPows : FVec F S247 .f32 :=
  Host.powf (broadcastInDim S247 ![] bcast_S_S247 (constant S_ .f32 0x40000000#32))
    (sitofp .f32 (addi (broadcastInDim S247 ![] bcast_S_S247 (constantI S_ 32 4294967170#32)) (iotaInDim S247 32 0)))

/-- How many of these powers each row's value reaches. -/
def refCount (t : FVec F S3x384 .f32) : IVec S3x384 32 :=
  Host.reduce IntOp.addi (extui 32 (cmpf .oge
      (broadcastInDim S3x384x247 ![0, 1, 2] bcast_S3x384x1_S3x384x247_0_1_2 (broadcastInDim S3x384x1 ![0, 1] bcast_S3x384_S3x384x1_0_1 t))
      (broadcastInDim S3x384x247 ![0, 1, 2] bcast_S1x1x247_S3x384x247_0_1_2 (broadcastInDim S1x1x247 ![2] bcast_S247_S1x1x247_2 refPows))) natLt_1_32)
    (constantI S_ 32 0#32) reducesTo_S3x384x247_S3x384_d2 h_S_

/-- The exponent of each row's scale. -/
def refE (y : FVec F S3x384x5120 .f32) : IVec S3x384 32 :=
  select (ori (cmpf .oeq (refTop y) (refRows 0x00000000#32)) (cmpf .oge (refT y) (refRows 0x7B800000#32)))
    (broadcastInDim S3x384 ![] bcast_S_S3x384 (constantI S_ 32 0#32))
    (subi (refCount (refT y)) (broadcastInDim S3x384 ![] bcast_S_S3x384 (constantI S_ 32 126#32)))

/-- Two to an integer power, row by row. -/
def refPow2 (e : IVec S3x384 32) : FVec F S3x384 .f32 := Host.powf (refRows 0x40000000#32) (sitofp .f32 e)

/-- The scaled and clipped rows, which the codes are cast from. -/
def refQ (y : FVec F S3x384x5120 .f32) : FVec F S3x384x5120 .f32 :=
  minimumf (refAll 0x43E00000#32) (maximumf (refAll 0xC3E00000#32) (mulf y (refCol (refPow2 (negi (refE y))))))

/-- The packed mask, each byte as a wide integer. -/
def maskWide (r : IVec S3x384x5120 32) : IVec S3x384x640 32 :=
  Host.reduce IntOp.addi (Host.shli (extui 32 (shapeCast S3x384x640x8 (refKeep r) shapeCasts_S3x384x5120_S3x384x640x8) natLt_1_32)
      (broadcastInDim S3x384x640x8 ![0, 1, 2, 3] bcast_S1x1x1x8_S3x384x640x8_0_1_2_3
        (broadcastInDim S1x1x1x8 ![3] bcast_S8_S1x1x1x8_3 (iotaInDim S8 32 0))))
    (constantI S_ 32 0#32) reducesTo_S3x384x640x8_S3x384x640_d3 h_S_

/-- The packed mask. -/
def refMask (r : IVec S3x384x5120 32) : IVec S3x384x640 8 := trunci 8 (maskWide r) natLt_8_32

variable (m : (ℓ : Loc nD τ sig) → Buf (Elt F) ℓ)

/-- The residual sum of the arguments in memory. -/
def hM (c : Dev nD) : FVec F S3x384x5120 .bf16 :=
  refH (m ((c : Thread nD τ).loc main_arg0)) (m ((c : Thread nD τ).loc main_arg1)) (m ((c : Thread nD τ).loc main_arg2))
    (m ((c : Thread nD τ).loc main_arg3))

/-- The same in the wider format. -/
def hfM (c : Dev nD) : FVec F S3x384x5120 .f32 := extf .f32 (hM m c) bitsLt_bf16_f32

/-- The normalised rows of the arguments in memory. -/
def yM (c : Dev nD) : FVec F S3x384x5120 .f32 :=
  refY (hfM m c) (m ((c : Thread nD τ).loc main_arg4)) (m ((c : Thread nD τ).loc main_arg5))

/-- The codes: the scaled and clipped rows in the low format, the rows in one list. -/
def codesM (c : Dev nD) : FVec F S1152x5120 .fp8e4m3 :=
  shapeCast S1152x5120 (Host.convertf .fp8e4m3 (refQ (yM m c))) shapeCasts_S3x384x5120_S1152x5120

set_option maxHeartbeats 4000000 in
/-- What the operations leave: the codes. -/
theorem after_v79 (c : Dev nD) : after ops (launchContents m c) (main_v79 : DevRef τ sig)
    = codesM m c := by
  simp only [ops, List.flatten_cons, List.flatten_nil, List.append_nil, ops0_0, ops0_1, ops0_2, ops1_0, ops1_1, ops1_2, ops1_3, ops1_4,
    List.cons_append, List.nil_append]
  after_results
  rfl

set_option maxHeartbeats 4000000 in
/-- What the operations leave: the scales. -/
theorem after_v62 (c : Dev nD) : after ops (launchContents m c) (main_v62 : DevRef τ sig)
    = refPow2 (refE (yM m c)) := by
  simp only [ops, List.flatten_cons, List.flatten_nil, List.append_nil, ops0_0, ops0_1, ops0_2, ops1_0, ops1_1, ops1_2, ops1_3, ops1_4,
    List.cons_append, List.nil_append]
  after_results
  rfl

set_option maxHeartbeats 4000000 in
/-- What the operations leave: the mask. -/
theorem after_v81 (c : Dev nD) : after ops (launchContents m c) (main_v81 : DevRef τ sig)
    = shapeCast S1152x640 (refMask (m ((c : Thread nD τ).loc main_arg3))) shapeCasts_S3x384x640_S1152x640 := by
  simp only [ops, List.flatten_cons, List.flatten_nil, List.append_nil, ops0_0, ops0_1, ops0_2, ops1_0, ops1_1, ops1_2, ops1_3, ops1_4,
    List.cons_append, List.nil_append]
  after_results
  rfl

set_option maxHeartbeats 4000000 in
/-- What the operations leave: the means. -/
theorem after_v15 (c : Dev nD) : after ops (launchContents m c) (main_v15 : DevRef τ sig)
    = refMean (hfM m c) := by
  simp only [ops, List.flatten_cons, List.flatten_nil, List.append_nil, ops0_0, ops0_1, ops0_2, ops1_0, ops1_1, ops1_2, ops1_3, ops1_4,
    List.cons_append, List.nil_append]
  after_results
  rfl

set_option maxHeartbeats 4000000 in
/-- What the operations leave: the reciprocal deviations. -/
theorem after_v25 (c : Dev nD) : after ops (launchContents m c) (main_v25 : DevRef τ sig)
    = refRstd (hfM m c) := by
  simp only [ops, List.flatten_cons, List.flatten_nil, List.append_nil, ops0_0, ops0_1, ops0_2, ops1_0, ops1_1, ops1_2, ops1_3, ops1_4,
    List.cons_append, List.nil_append]
  after_results
  rfl

set_option maxHeartbeats 4000000 in
/-- What the operations leave: the residual sum. -/
theorem after_v82 (c : Dev nD) : after ops (launchContents m c) (main_v82 : DevRef τ sig)
    = shapeCast S1152x5120 (hM m c) shapeCasts_S3x384x5120_S1152x5120 := by
  simp only [ops, List.flatten_cons, List.flatten_nil, List.append_nil, ops0_0, ops0_1, ops0_2, ops1_0, ops1_1, ops1_2, ops1_3, ops1_4,
    List.cons_append, List.nil_append]
  after_results
  rfl

variable (ρ : Dev nD → PrngReg)

/-- The reference runs to the end, with every result a function of the arguments. -/
theorem run : θ_run defs (onTc (τ := τ) (main (F := F))) ⟨m, fun _ => 0, ρ⟩ (fun r => ∀ c : Dev nD,
      r.2.mem ((c.tc : Thread nD τ).loc main_v79) = codesM m c
      ∧ r.2.mem ((c.tc : Thread nD τ).loc main_v62) = refPow2 (refE (yM m c))
      ∧ r.2.mem ((c.tc : Thread nD τ).loc main_v81) = shapeCast S1152x640 (refMask (m ((c : Thread nD τ).loc main_arg3))) shapeCasts_S3x384x640_S1152x640
      ∧ r.2.mem ((c.tc : Thread nD τ).loc main_v15) = refMean (hfM m c)
      ∧ r.2.mem ((c.tc : Thread nD τ).loc main_v25) = refRstd (hfM m c)
      ∧ r.2.mem ((c.tc : Thread nD τ).loc main_v82) = shapeCast S1152x5120 (hM m c) shapeCasts_S3x384x5120_S1152x5120) :=
  (θ_run defs _ _).mono (fun _ h c => ⟨(h c main_v79).trans (after_v79 m c), (h c main_v62).trans (after_v62 m c), (h c main_v81).trans (after_v81 m c),
      (h c main_v15).trans (after_v15 m c), (h c main_v25).trans (after_v25 m c), (h c main_v82).trans (after_v82 m c)⟩) (run_main m ρ)

end Cert.ReferenceIdeal.Value

end
-- ==== Proof.RefIdeal.lean ====
/-
  The reference's stages read element by element in extended reals: each is the row function of the specification.
-/
module

public import proofs.«01_k».proof.Proof.RefValue
public import proofs.«01_k».proof.Proof.Spec
public import proofs.«01_k».proof.Proof.Elementwise
public import Idealize.ShloMosaic.Lib.IdealHost
public import Idealize.ShloMosaic.Lib.Pipeline.ValueKit

@[expose] public section

set_option maxRecDepth 16384

noncomputable section

namespace Cert.ReferenceIdeal.Value

open Idealize.ShloMosaic
open Cert.ReferenceIdeal Cert.ReferenceIdeal.Gen Cert.Spec
open scoped BigOperators

local notation "𝔼" => Idealize.ShloMosaic.Ideal

/-- Column `j` of row `i`. -/
def colIdx (i : S3x384.Idx) (j : Fin 5120) : S3x384x5120.Idx :=
  fun a => match a with | ⟨0, _⟩ => i 0 | ⟨1, _⟩ => i 1 | ⟨2, _⟩ => j

/-- Column `j` of a vector of columns. -/
def oneIdx (j : Fin 5120) : S5120.Idx := fun a => match a with | ⟨0, _⟩ => j

/-- Row `i` of an array. -/
def rowAt {α : Type} (h : S3x384x5120.Idx → α) (i : S3x384.Idx) : Fin 5120 → α := fun j => h (colIdx i j)

theorem reduces_row : S3x384x5120.Reduces [2] S3x384 := by decide
theorem reduces_pows : S3x384x247.Reduces [2] S3x384 := by decide
theorem reduces_bits : S3x384x640x8.Reduces [3] S3x384x640 := by decide

theorem lift_row (i : S3x384.Idx) (j : Fin 5120) : reduces_row.lift i j = colIdx i j :=
  funext fun a => match a with | ⟨0, _⟩ => rfl | ⟨1, _⟩ => rfl | ⟨2, _⟩ => rfl

theorem refRow_apply (b : FVec 𝔼 S5120 .f32) (i : S3x384.Idx) (j : Fin 5120) : refRow b (colIdx i j) = b (oneIdx j) := by
  unfold refRow
  rw [broadcastInDim_apply _ _ _ _ (fun a => match a with | ⟨0, _⟩ => (0 : Fin 1) | ⟨1, _⟩ => (0 : Fin 1) | ⟨2, _⟩ => j)
    (fun a => by fin_cases a <;> rfl)]
  exact broadcastInDim_apply _ _ _ _ (oneIdx j) (fun a => by fin_cases a; rfl)

/-- Row `i` of an array with one column. -/
def firstCol (i : S3x384.Idx) : S3x384x1.Idx :=
  fun a => match a with | ⟨0, _⟩ => i 0 | ⟨1, _⟩ => i 1 | ⟨2, _⟩ => (⟨0, Nat.one_pos⟩ : Fin 1)

theorem refCol_apply (b : FVec 𝔼 S3x384 .f32) (i : S3x384.Idx) (j : Fin 5120) : refCol b (colIdx i j) = b i := by
  unfold refCol
  rw [broadcastInDim_apply _ _ _ _ (firstCol i) (fun a => by fin_cases a <;> rfl)]
  exact broadcastInDim_apply _ _ _ _ i (fun a => by fin_cases a <;> rfl)

theorem refAll_apply (w : BitVec 32) (k : S3x384x5120.Idx) : refAll (F := 𝔼) w k = Ideal.ofBits .f32 w := rfl

theorem refRows_apply (w : BitVec 32) (i : S3x384.Idx) : refRows (F := 𝔼) w i = Ideal.ofBits .f32 w := rfl

theorem refKeep_apply (r : IVec S3x384x5120 32) (k : S3x384x5120.Idx) : refKeep r k = kept (r k) := rfl

theorem refH_apply (x a : FVec 𝔼 S3x384x5120 .bf16) (b : FVec 𝔼 S5120 .f32) (r : IVec S3x384x5120 32) (i : S3x384.Idx)
    (j : Fin 5120) : refH x a b r (colIdx i j) = resid (x (colIdx i j)) (a (colIdx i j)) (b (oneIdx j)) (r (colIdx i j)) := by
  unfold refH resid
  simp only [at_truncf, at_addf, at_extf, at_select, at_mulf, refRow_apply, refAll_apply, refKeep_apply, Ideal.ofBits_zero_f32]

theorem sum_row (h : FVec 𝔼 S3x384x5120 .f32) (i : S3x384.Idx) :
    Host.reduceAdd h (constant S_ .f32 0x00000000#32) reducesTo_S3x384x5120_S3x384_d2 h_S_ i = ∑ j, rowAt h i j := by
  refine (Ideal.hostReduceAdd_single reducesTo_S3x384x5120_S3x384_d2 reduces_row h _ i).trans ?_
  rw [at_constant, Ideal.ofBits_zero_f32, zero_add]
  exact Finset.sum_congr rfl fun j _ => congrArg h (lift_row i j)

theorem refMean_apply (h : FVec 𝔼 S3x384x5120 .f32) (i : S3x384.Idx) : refMean h i = mean (rowAt h i) := by
  unfold refMean mean
  rw [at_hostDivf, sum_row, refRows_apply, ofBits_5120, Ideal.div_coe (by norm_num)]

theorem refC_apply (h : FVec 𝔼 S3x384x5120 .f32) (i : S3x384.Idx) (j : Fin 5120) : refC h (colIdx i j) = cent (rowAt h i) j := by
  unfold refC cent
  rw [at_subf, refCol_apply, refMean_apply]
  rfl

theorem refRstd_apply (h : FVec 𝔼 S3x384x5120 .f32) (i : S3x384.Idx) : refRstd h i = rstd (rowAt h i) := by
  have e : rowAt (mulf (refC h) (refC h)) i = fun j => cent (rowAt h i) j * cent (rowAt h i) j :=
    funext fun j => by unfold rowAt; rw [at_mulf, refC_apply]; rfl
  unfold refRstd rstd
  rw [at_hostRsqrt, at_addf, refMean_apply, e, refRows_apply]

theorem refY_apply (h : FVec 𝔼 S3x384x5120 .f32) (g b : FVec 𝔼 S5120 .f32) (i : S3x384.Idx) (j : Fin 5120) :
    refY h g b (colIdx i j) = norm (rowAt h i) (fun k => g (oneIdx k)) (fun k => b (oneIdx k)) j := by
  unfold refY Spec.norm
  rw [at_addf, at_mulf, at_mulf, refC_apply, refCol_apply, refRstd_apply, refRow_apply, refRow_apply]

theorem refTop_apply (y : FVec 𝔼 S3x384x5120 .f32) (i : S3x384.Idx) : refTop y i = top (rowAt y i) := by
  unfold refTop
  rw [Host.reduce_eq_fold_single (f := FloatOps.maximumf (F := 𝔼) (φ := .f32)) _ _ reducesTo_S3x384x5120_S3x384_d2 reduces_row,
    at_constant, ofBits_bot]
  have e : (Host.absf y ∘ reduces_row.lift i : Fin 5120 → EReal) = fun j => max (rowAt y i j) (-(rowAt y i j)) :=
    funext fun j => by
      show Host.absf y (reduces_row.lift i j) = _
      rw [lift_row, at_hostAbsf]; rfl
  exact congrArg (fun f : Fin 5120 → EReal => Finset.univ.fold max ⊥ f) e

theorem refT_apply (y : FVec 𝔼 S3x384x5120 .f32) (i : S3x384.Idx) : refT y i = ratio (rowAt y i) := by
  unfold refT ratio
  rw [at_mulf, refTop_apply, refRows_apply]

theorem refPows_apply (k : S247.Idx) : refPows (F := 𝔼) k = pw (((k 0).val : ℤ) - 126) := by
  have hk : (k 0).val < 247 := (k 0).isLt
  have e : (4294967170#32 : BitVec 32) + BitVec.ofNat 32 (k 0).val = BitVec.ofInt 32 (((k 0).val : ℤ) - 126) := by
    rw [show (4294967170#32 : BitVec 32) = BitVec.ofInt 32 (-126) by decide, ← BitVec.ofInt_natCast, ofInt_add, add_comm]
    rfl
  unfold refPows
  rw [at_hostPowf, at_sitofp, at_addi]
  have h1 : broadcastInDim S247 ![] bcast_S_S247 (constant (F := 𝔼) S_ .f32 0x40000000#32) k = Ideal.ofBits .f32 0x40000000#32 := rfl
  have h2 : broadcastInDim S247 ![] bcast_S_S247 (constantI S_ 32 4294967170#32) k = 4294967170#32 := rfl
  have h3 : iotaInDim S247 32 0 k = BitVec.ofNat 32 (k 0).val := rfl
  rw [h1, h2, h3, e, toInt_small _ (by omega) (by omega), Spec.pow_two]

/-- Power `k` of the table. -/
def powIdx (k : Fin 247) : S247.Idx := fun a => match a with | ⟨0, _⟩ => k

/-- The place of power `k` in the table as one row. -/
def powRow (k : Fin 247) : S1x1x247.Idx :=
  fun a => match a with | ⟨0, _⟩ => (⟨0, Nat.one_pos⟩ : Fin 1) | ⟨1, _⟩ => (⟨0, Nat.one_pos⟩ : Fin 1) | ⟨2, _⟩ => k

theorem refCount_apply (t : FVec 𝔼 S3x384 .f32) (i : S3x384.Idx) : refCount t i = BitVec.ofNat 32 (Spec.count (t i)) := by
  unfold refCount
  rw [Host.reduce_eq_fold_single IntOp.addi _ _ reducesTo_S3x384x247_S3x384_d2 reduces_pows, at_constantI]
  have hc : Spec.count (t i) = ∑ k : Fin 247, if pw ((k.val : ℤ) - 126) ≤ t i then 1 else 0 := by
    unfold Spec.count
    rw [Finset.card_filter, Finset.sum_range]
  rw [hc, ← fold_addi]
  refine congrArg (fun f : Fin 247 → BitVec 32 => Finset.fold IntOp.addi (0#32) f Finset.univ) (funext fun (k : Fin 247) => ?_)
  show extui 32 (cmpf .oge (broadcastInDim S3x384x247 ![0, 1, 2] bcast_S3x384x1_S3x384x247_0_1_2
    (broadcastInDim S3x384x1 ![0, 1] bcast_S3x384_S3x384x1_0_1 t)) (broadcastInDim S3x384x247 ![0, 1, 2] bcast_S1x1x247_S3x384x247_0_1_2
      (broadcastInDim S1x1x247 ![2] bcast_S247_S1x1x247_2 refPows))) natLt_1_32 (reduces_pows.lift i k) = _
  rw [at_extui, at_cmpf,
    broadcastInDim_apply _ _ (broadcastInDim S3x384x1 _ _ t) (reduces_pows.lift i k) (firstCol i) (fun a => by fin_cases a <;> rfl),
    broadcastInDim_apply _ _ t (firstCol i) i (fun a => by fin_cases a <;> rfl),
    broadcastInDim_apply _ _ (broadcastInDim S1x1x247 _ _ refPows) (reduces_pows.lift i k) (powRow k) (fun a => by fin_cases a <;> rfl),
    broadcastInDim_apply _ _ refPows (powRow k) (powIdx k) (fun a => by fin_cases a; rfl), refPows_apply]
  show (Ideal.cmp .oge (t i) (pw ((k.val : ℤ) - 126))).setWidth 32 = _
  unfold Ideal.cmp
  by_cases h : pw ((k.val : ℤ) - 126) ≤ t i
  · simp [h]
  · simp [h]

theorem refE_apply (y : FVec 𝔼 S3x384x5120 .f32) (i : S3x384.Idx) : refE y i = BitVec.ofInt 32 (expo (rowAt y i)) := by
  unfold refE
  have h1 : broadcastInDim S3x384 ![] bcast_S_S3x384 (constantI S_ 32 0#32) i = 0#32 := rfl
  have h2 : broadcastInDim S3x384 ![] bcast_S_S3x384 (constantI S_ 32 126#32) i = 126#32 := rfl
  rw [at_select, at_ori, at_cmpf, at_cmpf, at_subi, refCount_apply, refTop_apply, refT_apply, refRows_apply, refRows_apply,
    Ideal.ofBits_zero_f32, ofBits_top_pow, h1, h2]
  exact expo_word (rowAt y i)

theorem refPow2_apply (e : IVec S3x384 32) (i : S3x384.Idx) (n : ℤ) (h : e i = BitVec.ofInt 32 n) (h1 : -255 ≤ n) (h2 : n ≤ 255) :
    refPow2 (F := 𝔼) e i = pw n := by
  unfold refPow2
  rw [at_hostPowf, at_sitofp, refRows_apply, h, toInt_small n h1 h2, pow_two]

theorem refScale_apply (y : FVec 𝔼 S3x384x5120 .f32) (i : S3x384.Idx) : refPow2 (F := 𝔼) (refE y) i = pw (expo (rowAt y i)) :=
  have h1 := expo_ge (rowAt y i)
  have h2 := expo_le (rowAt y i)
  refPow2_apply _ i _ (refE_apply y i) (by omega) (by omega)

theorem refQ_apply (y : FVec 𝔼 S3x384x5120 .f32) (i : S3x384.Idx) (j : Fin 5120) :
    refQ y (colIdx i j) = code (rowAt y i) j := by
  have h1 := expo_ge (rowAt y i)
  have h2 := expo_le (rowAt y i)
  have e : negi (refE y) i = BitVec.ofInt 32 (-expo (rowAt y i)) := by rw [at_negi, refE_apply, BitVec.ofInt_neg]
  unfold refQ code
  rw [at_minimumf, at_maximumf, at_mulf, refAll_apply, refAll_apply, refCol_apply, refPow2_apply _ i _ e (by omega) (by omega)]
  rfl

/-- Byte `b` of row `i`. -/
def byteIdx (i : S3x384.Idx) (b : Fin 640) : S3x384x640.Idx :=
  fun a => match a with | ⟨0, _⟩ => i 0 | ⟨1, _⟩ => i 1 | ⟨2, _⟩ => b

/-- Bit `j` of byte `b` of row `i`. -/
def bitIdx (i : S3x384.Idx) (b : Fin 640) (j : Fin 8) : S3x384x640x8.Idx :=
  fun a => match a with | ⟨0, _⟩ => i 0 | ⟨1, _⟩ => i 1 | ⟨2, _⟩ => b | ⟨3, _⟩ => j

/-- Shift `j` of the table. -/
def shiftIdx (j : Fin 8) : S8.Idx := fun a => match a with | ⟨0, _⟩ => j

/-- Shift `j` of the table in one row. -/
def shiftRow (j : Fin 8) : S1x1x1x8.Idx :=
  fun a => match a with
    | ⟨0, _⟩ => (⟨0, Nat.one_pos⟩ : Fin 1) | ⟨1, _⟩ => (⟨0, Nat.one_pos⟩ : Fin 1) | ⟨2, _⟩ => (⟨0, Nat.one_pos⟩ : Fin 1) | ⟨3, _⟩ => j

theorem lift_bit (i : S3x384.Idx) (b : Fin 640) (j : Fin 8) : reduces_bits.lift (byteIdx i b) j = bitIdx i b j :=
  funext fun a => match a with | ⟨0, _⟩ => rfl | ⟨1, _⟩ => rfl | ⟨2, _⟩ => rfl | ⟨3, _⟩ => rfl

theorem shifted : ∀ (u : BitVec 1) (j : Fin 8), IntOp.shli .host (u.setWidth 32) (BitVec.ofNat 32 j.val) = BitVec.ofNat 32 (u.toNat * 2 ^ j.val) := by
  decide

theorem maskWide_apply (r : IVec S3x384x5120 32) (i : S3x384.Idx) (b : Fin 640) :
    maskWide r (byteIdx i b) = BitVec.ofNat 32 (∑ j : Fin 8, (kept (rowAt r i (bitCol b j))).toNat * 2 ^ j.val) := by
  unfold maskWide
  rw [Host.reduce_eq_fold_single IntOp.addi _ _ reducesTo_S3x384x640x8_S3x384x640_d3 reduces_bits, ← fold_addi, at_constantI]
  refine congrArg (fun f : Fin 8 → BitVec 32 => Finset.fold IntOp.addi (0#32) f Finset.univ) (funext fun (j : Fin 8) => ?_)
  refine (congrArg _ (lift_bit i b j)).trans ?_
  rw [at_hostShli, at_extui,
    broadcastInDim_apply _ _ (broadcastInDim S1x1x1x8 _ _ _) (bitIdx i b j) (shiftRow j) (fun a => by fin_cases a <;> rfl),
    broadcastInDim_apply _ _ (iotaInDim S8 32 0) (shiftRow j) (shiftIdx j) (fun a => by fin_cases a; rfl),
    shapeCast_apply (refKeep r) _ (bitIdx i b j) (colIdx i (bitCol b j)) (by
      rw [Shape.rowMajor_val_three, Shape.rowMajor_val_four]
      show ((i 0).val * 384 + (i 1).val) * 5120 + (8 * b.val + j.val) = (((i 0).val * 384 + (i 1).val) * 640 + b.val) * 8 + j.val
      ring), refKeep_apply]
  exact shifted _ j

theorem refMask_apply (r : IVec S3x384x5120 32) (i : S3x384.Idx) (b : Fin 640) :
    refMask r (byteIdx i b) = pack fun j => rowAt r i (bitCol b j) := by
  unfold refMask pack
  rw [at_trunci, maskWide_apply]
  apply BitVec.eq_of_toNat_eq
  simp

end Cert.ReferenceIdeal.Value

end
-- ==== Proof.Equal.lean ====
/-
  The kernel and the reference compute the same results: from memories that agree on the arguments, each result of the reference
  is, element by element, what the kernel's result is.
-/
module

public import proofs.«01_k».proof.Proof.IdealArrays
public import proofs.«01_k».proof.Proof.RefIdeal

@[expose] public section

set_option maxRecDepth 16384

noncomputable section

namespace Cert.Equal

open Idealize.ShloMosaic Idealize.ShloMosaic.TcCoe Idealize.ShloMosaic.StableHlo
open Cert.ReferenceIdeal Cert.ReferenceIdeal.Gen Cert.ReferenceIdeal.Value Cert.Spec
open Cert.KernelIdeal.Run (argIdx vecIdx flatIdx byteFlat rowAt384 hRow yRow maskByte codesArr hArr maskArr scaleArr meanArr rstdArr)

local notation "𝔼" => Idealize.ShloMosaic.Ideal

/-- The memories agree on the arguments of device `c`. -/
def SameArgs (m : (ℓ : Loc Cert.KernelIdeal.nD Cert.KernelIdeal.τ Cert.KernelIdeal.sig) → Buf (Elt 𝔼) ℓ)
    (m' : (ℓ : Loc nD τ sig) → Buf (Elt 𝔼) ℓ) (c : Dev Cert.KernelIdeal.nD) : Prop :=
  m' ((c.tc : Thread nD τ).loc main_arg0) = m ((c.tc : Thread Cert.KernelIdeal.nD Cert.KernelIdeal.τ).loc Cert.KernelIdeal.main_arg0)
  ∧ m' ((c.tc : Thread nD τ).loc main_arg1) = m ((c.tc : Thread Cert.KernelIdeal.nD Cert.KernelIdeal.τ).loc Cert.KernelIdeal.main_arg1)
  ∧ m' ((c.tc : Thread nD τ).loc main_arg2) = m ((c.tc : Thread Cert.KernelIdeal.nD Cert.KernelIdeal.τ).loc Cert.KernelIdeal.main_arg2)
  ∧ m' ((c.tc : Thread nD τ).loc main_arg3) = m ((c.tc : Thread Cert.KernelIdeal.nD Cert.KernelIdeal.τ).loc Cert.KernelIdeal.main_arg3)
  ∧ m' ((c.tc : Thread nD τ).loc main_arg4) = m ((c.tc : Thread Cert.KernelIdeal.nD Cert.KernelIdeal.τ).loc Cert.KernelIdeal.main_arg4)
  ∧ m' ((c.tc : Thread nD τ).loc main_arg5) = m ((c.tc : Thread Cert.KernelIdeal.nD Cert.KernelIdeal.τ).loc Cert.KernelIdeal.main_arg5)

/-- Row `g` of all 1152 among 3 times 384. -/
def place (g : Fin 1152) : S3x384.Idx := fun a => match a with
  | ⟨0, _⟩ => (⟨g.val / 384, by omega⟩ : Fin 3)
  | ⟨1, _⟩ => (⟨g.val % 384, Nat.mod_lt _ (by norm_num)⟩ : Fin 384)

theorem col_place (g : Fin 1152) (j : Fin 5120) : colIdx (place g) j = argIdx g j :=
  funext fun a => match a with | ⟨0, _⟩ => rfl | ⟨1, _⟩ => rfl | ⟨2, _⟩ => rfl

theorem place_row (y : S3x384.Idx) : place (rowAt384 y) = y := by
  have h0 : (y 0).val < 3 := (y 0).isLt
  have h1 : (y 1).val < 384 := (y 1).isLt
  funext a
  match a with
  | ⟨0, _⟩ => exact Fin.ext (show (384 * (y 0).val + (y 1).val) / 384 = (y 0).val by omega)
  | ⟨1, _⟩ => exact Fin.ext (show (384 * (y 0).val + (y 1).val) % 384 = (y 1).val by omega)

theorem cast_rows {α : Type} (v : S3x384x5120.Idx → α) (g : Fin 1152) (j : Fin 5120) :
    shapeCast S1152x5120 v shapeCasts_S3x384x5120_S1152x5120 (flatIdx g j) = rowAt v (place g) j :=
  (Cert.KernelIdeal.Run.cast_rows v g j).trans (congrArg v (col_place g j)).symm

theorem cast_bytes {α : Type} (v : S3x384x640.Idx → α) (g : Fin 1152) (b : Fin 640) :
    shapeCast S1152x640 v shapeCasts_S3x384x640_S1152x640 (byteFlat g b) = v (byteIdx (place g) b) := by
  refine shapeCast_apply v _ (byteFlat g b) (byteIdx (place g) b) ?_
  rw [Shape.rowMajor_val_three, Shape.rowMajor_val_two]
  show (g.val / 384 * 384 + g.val % 384) * 640 + b.val = g.val * 640 + b.val
  omega

theorem flat_eta (y : S1152x5120.Idx) : flatIdx (y 0) (y 1) = y := funext fun a => match a with | ⟨0, _⟩ => rfl | ⟨1, _⟩ => rfl

theorem byte_eta (y : S1152x640.Idx) : byteFlat (y 0) (y 1) = y := funext fun a => match a with | ⟨0, _⟩ => rfl | ⟨1, _⟩ => rfl

variable {m : (ℓ : Loc Cert.KernelIdeal.nD Cert.KernelIdeal.τ Cert.KernelIdeal.sig) → Buf (Elt 𝔼) ℓ}
  {m' : (ℓ : Loc nD τ sig) → Buf (Elt 𝔼) ℓ} {c : Dev Cert.KernelIdeal.nD}

/-! ### The rows -/

theorem h_row (s : SameArgs m m' c) (g : Fin 1152) : rowAt (hM m' c) (place g) = hRow m c g := by
  obtain ⟨h0, h1, h2, h3, -⟩ := s
  funext j
  refine (refH_apply _ _ _ _ (place g) j).trans ?_
  rw [col_place]
  have e0 := congrFun h0 (argIdx g j)
  have e1 := congrFun h1 (argIdx g j)
  have e2 := congrFun h2 (vecIdx j)
  have e3 := congrFun h3 (argIdx g j)
  unfold hRow
  rw [← e0, ← e1, ← e2, ← e3]
  rfl

theorem hf_row (s : SameArgs m m' c) (g : Fin 1152) : rowAt (hfM m' c) (place g) = hRow m c g := by
  rw [← h_row s]
  funext j
  exact at_extf _ _ _

theorem y_row (s : SameArgs m m' c) (g : Fin 1152) : rowAt (yM m' c) (place g) = yRow m c g := by
  have hh := hf_row s g
  obtain ⟨-, -, -, -, h4, h5⟩ := s
  funext j
  refine (refY_apply _ _ _ (place g) j).trans ?_
  rw [hh]
  have e4 : (fun k : Fin 5120 => m' ((c.tc : Thread nD τ).loc main_arg4) (oneIdx k))
      = fun k => m ((c.tc : Thread Cert.KernelIdeal.nD Cert.KernelIdeal.τ).loc Cert.KernelIdeal.main_arg4) (vecIdx k) :=
    funext fun k => congrFun h4 (vecIdx k)
  have e5 : (fun k : Fin 5120 => m' ((c.tc : Thread nD τ).loc main_arg5) (oneIdx k))
      = fun k => m ((c.tc : Thread Cert.KernelIdeal.nD Cert.KernelIdeal.τ).loc Cert.KernelIdeal.main_arg5) (vecIdx k) :=
    funext fun k => congrFun h5 (vecIdx k)
  exact congrFun (congrArg₂ (Spec.norm (hRow m c g)) e4 e5) j

/-! ### The results -/

/-- The codes agree. -/
theorem codes_eq (s : SameArgs m m' c) : codesM m' c = codesArr m c := by
  funext (y : S1152x5120.Idx)
  obtain ⟨g, j, rfl⟩ : ∃ g j, y = flatIdx g j := ⟨y 0, y 1, (flat_eta y).symm⟩
  refine (cast_rows _ g j).trans ((refQ_apply _ (place g) j).trans ?_)
  rw [y_row s]
  rfl

/-- The scales agree. -/
theorem scale_eq (s : SameArgs m m' c) : refPow2 (F := 𝔼) (refE (yM m' c)) = scaleArr m c := by
  funext (y : S3x384.Idx)
  refine (refScale_apply _ y).trans ?_
  have e := y_row s (rowAt384 y)
  rw [place_row] at e
  rw [e]
  rfl

/-- The masks agree. -/
theorem mask_eq (s : SameArgs m m' c) :
    shapeCast S1152x640 (refMask (m' ((c.tc : Thread nD τ).loc main_arg3))) shapeCasts_S3x384x640_S1152x640 = maskArr m c := by
  obtain ⟨-, -, -, h3, -⟩ := s
  funext (y : S1152x640.Idx)
  obtain ⟨g, b, rfl⟩ : ∃ g b, y = byteFlat g b := ⟨y 0, y 1, (byte_eta y).symm⟩
  refine (cast_bytes _ g b).trans ((refMask_apply _ (place g) b).trans (congrArg pack (funext fun j => ?_)))
  refine (congrArg _ (col_place g (bitCol b j))).trans ?_
  exact congrFun h3 (argIdx g (bitCol b j))

/-- The means agree. -/
theorem mean_eq (s : SameArgs m m' c) : refMean (hfM m' c) = meanArr m c := by
  funext (y : S3x384.Idx)
  refine (refMean_apply _ y).trans ?_
  have e := hf_row s (rowAt384 y)
  rw [place_row] at e
  rw [e]
  rfl

/-- The reciprocal deviations agree. -/
theorem rstd_eq (s : SameArgs m m' c) : refRstd (hfM m' c) = rstdArr m c := by
  funext (y : S3x384.Idx)
  refine (refRstd_apply _ y).trans ?_
  have e := hf_row s (rowAt384 y)
  rw [place_row] at e
  rw [e]
  rfl

/-- The residual sums agree. -/
theorem h_eq (s : SameArgs m m' c) : shapeCast S1152x5120 (hM m' c) shapeCasts_S3x384x5120_S1152x5120 = hArr m c := by
  funext (y : S1152x5120.Idx)
  obtain ⟨g, j, rfl⟩ : ∃ g j, y = flatIdx g j := ⟨y 0, y 1, (flat_eta y).symm⟩
  refine (cast_rows _ g j).trans ?_
  rw [h_row s]
  rfl

end Cert.Equal

end
-- ==== Proof.lean ====
/- The proof of the claims: the two kernels' frames, the reference's frame, the rule that names the constant, and that the kernel
   and the reference end with equal results over the reals. -/
module

public import proofs.«01_k».proof.Defs
public import proofs.«01_k».proof.Proof.KernelFrame
public import proofs.«01_k».proof.Proof.IdealFrame
public import proofs.«01_k».proof.Proof.Equal
public import Idealize.ShloMosaic.Adequacy
public import Idealize.ShloMosaic.Init

@[expose] public section

noncomputable section

namespace Cert.Proof

open Idealize.ShloMosaic Idealize.SL.Sem
open Cert.KernelIdeal.Run (codesArr hArr maskArr scaleArr meanArr rstdArr)

/-- From memories that agree on the arguments both programs run, leave the arguments as they were and end with equal results. -/
theorem algebraic : algebraic_KernelIdeal_ReferenceIdeal (hKernelIdeal := Cert.KernelIdeal.Gen.facts)
    (hReferenceIdeal := Cert.ReferenceIdeal.Gen.facts) := by
  intro m g m' g' _ hs
  refine ⟨codesArr m, scaleArr m, maskArr m, meanArr m, rstdArr m, hArr m, Cert.KernelIdeal.Run.run m g, ?_⟩
  refine (θ_run Cert.ReferenceIdeal.defs _ _).mono (fun _ h c => ?_)
    (θ_run_and (Cert.ReferenceIdeal.Value.run m' g') (Cert.ReferenceIdeal.Line.unchanged m' g'))
  have s : Cert.Equal.SameArgs m m' c := hs c
  obtain ⟨r0, r1, r2, r3, r4, r5⟩ := h.1 c
  exact ⟨r0.trans (Cert.Equal.codes_eq s), r1.trans (Cert.Equal.scale_eq s), r2.trans (Cert.Equal.mask_eq s),
    r3.trans (Cert.Equal.mean_eq s), r4.trans (Cert.Equal.rstd_eq s), r5.trans (Cert.Equal.h_eq s), h.2 c⟩

/-- Every claim. -/
theorem claim : Cert.Claim :=
  ⟨Cert.Kernel.Gen.facts, Cert.KernelIdeal.Gen.facts, Cert.ReferenceIdeal.Gen.facts,
    fun m ρ _ => Cert.Kernel.Frame.frame m ρ,
    fun m ρ _ => Cert.KernelIdeal.Frame.frame m ρ,
    fun m ρ _ => Cert.ReferenceIdeal.Line.frame m ρ,
    IdealRules.named_const.statement Cert.KernelIdeal.κ "inv_d" .f32 0x394CCCCD#32 ((1/5120 : ℝ) : EReal) rfl,
    algebraic⟩

end Cert.Proof

end
